-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_fit [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sizes_fit [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sizes_fit [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel)
    ∧ quiescent_KernelIdeal (hKernelIdeal := hKernelIdeal)
    ∧ quiescent_KernelIdeal_pre_sizes_fit (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal_pre_sizes_fit (hKernelIdeal := hKernelIdeal) (hReferenceIdeal := hReferenceIdeal) (hPre_sizes_fit := hPre_sizes_fit)
-- ==== Pre_sizes_fit.lean ====
abbrev S16384x5120 : Shape := ⟨2, ![16384, 5120]⟩
abbrev S3 : Shape := ⟨1, ![3]⟩
abbrev S16384x8192 : Shape := ⟨2, ![16384, 8192]⟩
abbrev S_ : Shape := ⟨0, ![]⟩

class Facts : Prop where
  bcast_S_S3 : S_.BroadcastsInDim S3 (![] : Fin 0 → Fin S3.rank)
  bcast_S_S_ : S_.BroadcastsInDim S_ (![] : Fin 0 → Fin S_.rank)
  reduceWindows_S3_S3_w3s1p2_0 : S3.ReduceWindows (![3] : Fin 1 → Nat) ![1] ![2] ![0] S3
  h_S_ : 0 < S_.numel

variable [Facts]

def fn_cumsum_0 {F : FTy → Type} [FloatOps F] (arg0 : IVec S3 32) : IVec S3 32 :=
  let c : IVec S_ 32 := constantI S_ 32 0#32
  let v0 : IVec S_ 32 := broadcastInDim S_ ![] bcast_S_S_ c
  let v1 : IVec S3 32 := (fun x v => Host.reduceWindow IntOp.addi ![3] ![1] ![2] ![0] x v reduceWindows_S3_S3_w3s1p2_0 h_S_) arg0 v0
  v1

def fn_cumsum {F : FTy → Type} [FloatOps F] (arg0 : IVec S3 32) : IVec S3 32 :=
  let v0 : IVec S3 32 := fn_cumsum_0 (F := F) arg0
  v0

def fn {F : FTy → Type} [FloatOps F] (main_arg0 : FVec F S16384x5120 .fp8e4m3) (main_arg1 : FVec F S3 .f32) (main_arg2 : FVec F S16384x8192 .fp8e5m2) (main_arg3 : FVec F S3 .f32) (main_arg4 : IVec S3 32) : IVec S3 1 :=
  let main_c : IVec S_ 32 := constantI S_ 32 0#32
  let main_v0 : IVec S3 32 := broadcastInDim S3 ![] bcast_S_S3 main_c
  let main_v1 : IVec S3 1 := cmpi .sge main_arg4 main_v0
  let main_c_0 : IVec S_ 32 := constantI S_ 32 16384#32
  let main_v2 : IVec S3 32 := broadcastInDim S3 ![] bcast_S_S3 main_c_0
  let main_v3 : IVec S3 1 := cmpi .sle main_arg4 main_v2
  let main_v4 : IVec S3 1 := andi main_v1 main_v3
  let main_v5 : IVec S3 32 := fn_cumsum (F := F) main_arg4
  let main_c_1 : IVec S_ 32 := constantI S_ 32 16384#32
  let main_v6 : IVec S3 32 := broadcastInDim S3 ![] bcast_S_S3 main_c_1
  let main_v7 : IVec S3 1 := cmpi .sle main_v5 main_v6
  let main_v8 : IVec S3 1 := andi main_v4 main_v7
  main_v8
-- ==== Kernel.lean ====
abbrev S16384x5120 : Shape := ⟨2, ![16384, 5120]⟩
abbrev S3 : Shape := ⟨1, ![3]⟩
abbrev S16384x8192 : Shape := ⟨2, ![16384, 8192]⟩
abbrev S_ : Shape := ⟨0, ![]⟩
abbrev S1 : Shape := ⟨1, ![1]⟩
abbrev S4 : Shape := ⟨1, ![4]⟩
abbrev S19 : Shape := ⟨1, ![19]⟩
abbrev S1x19 : Shape := ⟨2, ![1, 19]⟩
abbrev S3x1 : Shape := ⟨2, ![3, 1]⟩
abbrev S3x19 : Shape := ⟨2, ![3, 19]⟩
abbrev S19x1 : Shape := ⟨2, ![19, 1]⟩
abbrev S3x5120x8192 : Shape := ⟨3, ![3, 5120, 8192]⟩
abbrev S1024x2560 : Shape := ⟨2, ![1024, 2560]⟩
abbrev S1024x2048 : Shape := ⟨2, ![1024, 2048]⟩
abbrev S1x2560x2048 : Shape := ⟨3, ![1, 2560, 2048]⟩
abbrev S2560x2048 : Shape := ⟨2, ![2560, 2048]⟩

abbrev nBuf : Space → Nat
  | .hbm => 218
  | .vmem => 6
  | .smem => 5
  | _ => 0

abbrev hbmTy0_0 (i : Nat) : BufTy := match i % 128 with
  | 0 => ⟨S16384x5120, .fp8e4m3⟩
  | 1 => ⟨S3, .f32⟩
  | 2 => ⟨S16384x8192, .fp8e5m2⟩
  | 3 => ⟨S3, .f32⟩
  | 4 => ⟨S3, .i32⟩
  | 5 => ⟨S_, .i32⟩
  | 6 => ⟨S1, .i32⟩
  | 7 => ⟨S_, .i32⟩
  | 8 => ⟨S_, .i32⟩
  | 9 => ⟨S3, .i32⟩
  | 10 => ⟨S3, .f32⟩
  | 11 => ⟨S3, .i32⟩
  | 12 => ⟨S3, .i32⟩
  | 13 => ⟨S3, .i1⟩
  | 14 => ⟨S_, .i32⟩
  | 15 => ⟨S_, .i32⟩
  | 16 => ⟨S3, .i32⟩
  | 17 => ⟨S3, .i32⟩
  | 18 => ⟨S3, .i32⟩
  | 19 => ⟨S_, .i32⟩
  | 20 => ⟨S3, .i32⟩
  | 21 => ⟨S3, .i1⟩
  | 22 => ⟨S3, .i32⟩
  | 23 => ⟨S3, .i32⟩
  | 24 => ⟨S_, .i32⟩
  | 25 => ⟨S3, .i32⟩
  | 26 => ⟨S3, .i1⟩
  | 27 => ⟨S3, .i1⟩
  | 28 => ⟨S_, .i32⟩
  | 29 => ⟨S3, .i32⟩
  | 30 => ⟨S3, .i32⟩
  | 31 => ⟨S3, .i32⟩
  | 32 => ⟨S_, .i32⟩
  | 33 => ⟨S3, .i32⟩
  | 34 => ⟨S3, .i32⟩
  | 35 => ⟨S_, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S_, .i32⟩
  | 43 => ⟨S3, .i32⟩
  | 44 => ⟨S3, .i32⟩
  | 45 => ⟨S3, .i32⟩
  | 46 => ⟨S_, .i32⟩
  | 47 => ⟨S3, .i32⟩
  | 48 => ⟨S3, .i1⟩
  | 49 => ⟨S3, .i32⟩
  | 50 => ⟨S3, .i32⟩
  | 51 => ⟨S_, .i32⟩
  | 52 => ⟨S3, .i32⟩
  | 53 => ⟨S3, .i1⟩
  | 54 => ⟨S3, .i1⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S_, .i32⟩
  | 63 => ⟨S3, .i32⟩
  | 64 => ⟨S19, .i32⟩
  | 65 => ⟨S1x19, .i32⟩
  | 66 => ⟨S3x1, .i32⟩
  | 67 => ⟨S3x19, .i32⟩
  | 68 => ⟨S3x19, .i32⟩
  | 69 => ⟨S3x19, .i1⟩
  | 70 => ⟨S3x19, .i32⟩
  | 71 => ⟨S_, .i32⟩
  | 72 => ⟨S19, .i32⟩
  | 73 => ⟨S_, .i32⟩
  | 74 => ⟨S19, .i32⟩
  | 75 => ⟨S1, .i32⟩
  | 76 => ⟨S_, .i32⟩
  | 77 => ⟨S19, .i32⟩
  | 78 => ⟨S19, .i1⟩
  | 79 => ⟨S_, .i32⟩
  | 80 => ⟨S19, .i32⟩
  | 81 => ⟨S19, .i1⟩
  | 82 => ⟨S_, .i32⟩
  | 83 => ⟨S19, .i32⟩
  | 84 => ⟨S19, .i32⟩
  | 85 => ⟨S19, .i32⟩
  | 86 => ⟨S19x1, .i32⟩
  | 87 => ⟨S19, .i32⟩
  | 88 => ⟨S_, .i32⟩
  | 89 => ⟨S19, .i32⟩
  | 90 => ⟨S19, .i1⟩
  | 91 => ⟨S_, .i32⟩
  | 92 => ⟨S19, .i32⟩
  | 93 => ⟨S19, .i32⟩
  | 94 => ⟨S19, .i32⟩
  | 95 => ⟨S19x1, .i32⟩
  | 96 => ⟨S19, .i32⟩
  | 97 => ⟨S19, .i32⟩
  | 98 => ⟨S19, .i32⟩
  | 99 => ⟨S_, .i32⟩
  | 100 => ⟨S19, .i32⟩
  | 101 => ⟨S19, .i1⟩
  | 102 => ⟨S_, .i32⟩
  | 103 => ⟨S19, .i32⟩
  | 104 => ⟨S19, .i32⟩
  | 105 => ⟨S19, .i32⟩
  | 106 => ⟨S19x1, .i32⟩
  | 107 => ⟨S19, .i32⟩
  | 108 => ⟨S19, .i32⟩
  | 109 => ⟨S_, .i32⟩
  | 110 => ⟨S19, .i32⟩
  | 111 => ⟨S19, .i1⟩
  | 112 => ⟨S_, .i32⟩
  | 113 => ⟨S19, .i32⟩
  | 114 => ⟨S19, .i32⟩
  | 115 => ⟨S19, .i32⟩
  | 116 => ⟨S19x1, .i32⟩
  | 117 => ⟨S19, .i32⟩
  | 118 => ⟨S_, .i32⟩
  | 119 => ⟨S19, .i32⟩
  | 120 => ⟨S19, .i1⟩
  | 121 => ⟨S_, .i32⟩
  | 122 => ⟨S19, .i32⟩
  | 123 => ⟨S19, .i32⟩
  | 124 => ⟨S19, .i32⟩
  | 125 => ⟨S19x1, .i32⟩
  | 126 => ⟨S19, .i32⟩
  | 127 => ⟨S19, .i32⟩
  | _ => ⟨S16384x5120, .fp8e4m3⟩

abbrev hbmTy0_1 (i : Nat) : BufTy := match i % 128 with
  | 0 => ⟨S_, .i32⟩
  | 1 => ⟨S19, .i32⟩
  | 2 => ⟨S19, .i32⟩
  | 3 => ⟨S19, .i32⟩
  | 4 => ⟨S_, .i32⟩
  | 5 => ⟨S_, .i32⟩
  | 6 => ⟨S_, .i32⟩
  | 7 => ⟨S19, .i32⟩
  | 8 => ⟨S19, .i32⟩
  | 9 => ⟨S_, .i32⟩
  | 10 => ⟨S19, .i32⟩
  | 11 => ⟨S_, .i32⟩
  | 12 => ⟨S19, .i32⟩
  | 13 => ⟨S19, .i1⟩
  | 14 => ⟨S_, .i32⟩
  | 15 => ⟨S19, .i32⟩
  | 16 => ⟨S19, .i32⟩
  | 17 => ⟨S19, .i32⟩
  | 18 => ⟨S19x1, .i32⟩
  | 19 => ⟨S19, .i32⟩
  | 20 => ⟨S_, .i32⟩
  | 21 => ⟨S19, .i32⟩
  | 22 => ⟨S19, .i32⟩
  | 23 => ⟨S19, .i1⟩
  | 24 => ⟨S_, .i32⟩
  | 25 => ⟨S19, .i32⟩
  | 26 => ⟨S19, .i1⟩
  | 27 => ⟨S_, .i32⟩
  | 28 => ⟨S19, .i32⟩
  | 29 => ⟨S19, .i32⟩
  | 30 => ⟨S19, .i32⟩
  | 31 => ⟨S19x1, .i32⟩
  | 32 => ⟨S19, .i32⟩
  | 33 => ⟨S_, .i32⟩
  | 34 => ⟨S19, .i32⟩
  | 35 => ⟨S19, .i32⟩
  | 36 => ⟨S_, .i32⟩
  | 37 => ⟨S19, .i32⟩
  | 38 => ⟨S19, .i32⟩
  | 39 => ⟨S19, .i1⟩
  | 40 => ⟨S19, .i1⟩
  | 41 => ⟨S_, .i32⟩
  | 42 => ⟨S19, .i32⟩
  | 43 => ⟨S19, .i1⟩
  | 44 => ⟨S19, .i32⟩
  | 45 => ⟨S_, .i32⟩
  | 46 => ⟨S19, .i32⟩
  | 47 => ⟨S19, .i32⟩
  | 48 => ⟨S_, .i32⟩
  | 49 => ⟨S19, .i32⟩
  | 50 => ⟨S19, .i1⟩
  | 51 => ⟨S_, .i32⟩
  | 52 => ⟨S19, .i32⟩
  | 53 => ⟨S19, .i32⟩
  | 54 => ⟨S19, .i32⟩
  | 55 => ⟨S19x1, .i32⟩
  | 56 => ⟨S19, .i32⟩
  | 57 => ⟨S_, .i32⟩
  | 58 => ⟨S19, .i32⟩
  | 59 => ⟨S19, .i32⟩
  | 60 => ⟨S19, .i1⟩
  | 61 => ⟨S19, .i32⟩
  | 62 => ⟨S_, .i32⟩
  | 63 => ⟨S19, .i32⟩
  | 64 => ⟨S19, .i32⟩
  | 65 => ⟨S19, .i32⟩
  | 66 => ⟨S_, .i32⟩
  | 67 => ⟨S19, .i32⟩
  | 68 => ⟨S19, .i1⟩
  | 69 => ⟨S_, .i32⟩
  | 70 => ⟨S19, .i32⟩
  | 71 => ⟨S19, .i32⟩
  | 72 => ⟨S19, .i32⟩
  | 73 => ⟨S19x1, .i32⟩
  | 74 => ⟨S19, .i1⟩
  | 75 => ⟨S19, .i1⟩
  | 76 => ⟨S19, .i32⟩
  | 77 => ⟨S_, .i32⟩
  | 78 => ⟨S19, .i32⟩
  | 79 => ⟨S19, .i32⟩
  | 80 => ⟨S19, .i32⟩
  | 81 => ⟨S19, .i32⟩
  | 82 => ⟨S_, .i32⟩
  | 83 => ⟨S19, .i32⟩
  | 84 => ⟨S19, .i32⟩
  | 85 => ⟨S19, .i32⟩
  | 86 => ⟨S_, .i32⟩
  | 87 => ⟨S19, .i32⟩
  | 88 => ⟨S19, .i32⟩
  | 89 => ⟨S3x5120x8192, .f32⟩
  | _ => ⟨S16384x5120, .fp8e4m3⟩

abbrev hbmTy (i : Nat) : BufTy := match i / 128 with
  | 0 => hbmTy0_0 i
  | 1 => hbmTy0_1 i
  | _ => ⟨S16384x5120, .fp8e4m3⟩

abbrev bufTy : (tb : Table) → Fin (tcTables nBuf tb) → BufTy
  | .hbm, ⟨i, _⟩ => hbmTy i
  | .local _ .vmem, ⟨0, _⟩ => ⟨S1024x2560, .fp8e4m3⟩
  | .local _ .vmem, ⟨1, _⟩ => ⟨S1024x2560, .fp8e4m3⟩
  | .local _ .vmem, ⟨2, _⟩ => ⟨S1024x2048, .fp8e5m2⟩
  | .local _ .vmem, ⟨3, _⟩ => ⟨S1024x2048, .fp8e5m2⟩
  | .local _ .vmem, ⟨4, _⟩ => ⟨S1x2560x2048, .f32⟩
  | .local _ .vmem, ⟨5, _⟩ => ⟨S1x2560x2048, .f32⟩
  | .local _ .smem, ⟨0, _⟩ => ⟨S4, .i32⟩
  | .local _ .smem, ⟨1, _⟩ => ⟨S19, .i32⟩
  | .local _ .smem, ⟨2, _⟩ => ⟨S19, .i32⟩
  | .local _ .smem, ⟨3, _⟩ => ⟨S19, .i32⟩
  | .local _ .smem, ⟨4, _⟩ => ⟨S3, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_call4_call0_c : Ref sig .tc := ⟨.hbm, 61, rfl⟩
abbrev main_call4_call0_v0 : Ref sig .tc := ⟨.hbm, 62, rfl⟩
abbrev main_v17 : Ref sig .tc := ⟨.hbm, 63, rfl⟩
abbrev main_v18 : Ref sig .tc := ⟨.hbm, 64, rfl⟩
abbrev main_call5_call0_v0 : Ref sig .tc := ⟨.hbm, 65, rfl⟩
abbrev main_call5_call0_v1 : Ref sig .tc := ⟨.hbm, 66, rfl⟩
abbrev main_call5_call0_v2 : Ref sig .tc := ⟨.hbm, 67, rfl⟩
abbrev main_call5_call0_v3 : Ref sig .tc := ⟨.hbm, 68, rfl⟩
abbrev main_call5_call0_v4 : Ref sig .tc := ⟨.hbm, 69, rfl⟩
abbrev main_call5_call0_v5 : Ref sig .tc := ⟨.hbm, 70, rfl⟩
abbrev main_call5_call0_c : Ref sig .tc := ⟨.hbm, 71, rfl⟩
abbrev main_v19 : Ref sig .tc := ⟨.hbm, 72, rfl⟩
abbrev main_c_5 : Ref sig .tc := ⟨.hbm, 73, rfl⟩
abbrev main_v20 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_c_6 : Ref sig .tc := ⟨.hbm, 79, rfl⟩
abbrev main_v26 : Ref sig .tc := ⟨.hbm, 80, rfl⟩
abbrev main_v27 : Ref sig .tc := ⟨.hbm, 81, rfl⟩
abbrev main_c_7 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_c_8 : Ref sig .tc := ⟨.hbm, 88, rfl⟩
abbrev main_v33 : Ref sig .tc := ⟨.hbm, 89, rfl⟩
abbrev main_v34 : Ref sig .tc := ⟨.hbm, 90, rfl⟩
abbrev main_c_9 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_10 : Ref sig .tc := ⟨.hbm, 99, rfl⟩
abbrev main_v42 : Ref sig .tc := ⟨.hbm, 100, rfl⟩
abbrev main_v43 : Ref sig .tc := ⟨.hbm, 101, rfl⟩
abbrev main_c_11 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_c_12 : Ref sig .tc := ⟨.hbm, 109, rfl⟩
abbrev main_v50 : Ref sig .tc := ⟨.hbm, 110, rfl⟩
abbrev main_v51 : Ref sig .tc := ⟨.hbm, 111, rfl⟩
abbrev main_c_13 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_c_14 : Ref sig .tc := ⟨.hbm, 118, rfl⟩
abbrev main_v57 : Ref sig .tc := ⟨.hbm, 119, rfl⟩
abbrev main_v58 : Ref sig .tc := ⟨.hbm, 120, rfl⟩
abbrev main_c_15 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_c_16 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_c_17 : Ref sig .tc := ⟨.hbm, 132, rfl⟩
abbrev main_c_18 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_c_19 : Ref sig .tc := ⟨.hbm, 139, rfl⟩
abbrev main_v69 : Ref sig .tc := ⟨.hbm, 140, rfl⟩
abbrev main_v70 : Ref sig .tc := ⟨.hbm, 141, rfl⟩
abbrev main_c_20 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_c_21 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_c_22 : Ref sig .tc := ⟨.hbm, 152, rfl⟩
abbrev main_v79 : Ref sig .tc := ⟨.hbm, 153, rfl⟩
abbrev main_v80 : Ref sig .tc := ⟨.hbm, 154, rfl⟩
abbrev main_c_23 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_c_24 : Ref sig .tc := ⟨.hbm, 161, rfl⟩
abbrev main_v86 : Ref sig .tc := ⟨.hbm, 162, rfl⟩
abbrev main_v87 : Ref sig .tc := ⟨.hbm, 163, rfl⟩
abbrev main_c_25 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_c_26 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_c_27 : Ref sig .tc := ⟨.hbm, 173, rfl⟩
abbrev main_v95 : Ref sig .tc := ⟨.hbm, 174, rfl⟩
abbrev main_v96 : Ref sig .tc := ⟨.hbm, 175, rfl⟩
abbrev main_c_28 : Ref sig .tc := ⟨.hbm, 176, rfl⟩
abbrev main_v97 : Ref sig .tc := ⟨.hbm, 177, rfl⟩
abbrev main_v98 : Ref sig .tc := ⟨.hbm, 178, rfl⟩
abbrev main_c_29 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_c_30 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_c_31 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_c_32 : Ref sig .tc := ⟨.hbm, 194, rfl⟩
abbrev main_v111 : Ref sig .tc := ⟨.hbm, 195, rfl⟩
abbrev main_v112 : Ref sig .tc := ⟨.hbm, 196, rfl⟩
abbrev main_c_33 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_c_34 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_c_35 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_c_36 : Ref sig .tc := ⟨.hbm, 214, rfl⟩
abbrev main_call8_v0 : Ref sig .tc := ⟨.hbm, 215, rfl⟩
abbrev main_v127 : Ref sig .tc := ⟨.hbm, 216, rfl⟩
abbrev main_v129 : Ref sig .tc := ⟨.hbm, 217, rfl⟩
abbrev main_v2 : Ref sig .tc := ⟨.smem, 0, rfl⟩
abbrev main_v21 : Ref sig .tc := ⟨.smem, 1, rfl⟩
abbrev main_v68 : Ref sig .tc := ⟨.smem, 2, rfl⟩
abbrev main_v128 : Ref sig .tc := ⟨.smem, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 19], ![false, false, false]⟩

abbrev pre0 : Pipeline.Prefetch sig := ⟨4, ![main_v2.idx, main_v21.idx, main_v68.idx, main_v128.idx], fun | 0 => main_v2.names | 1 => main_v21.names | 2 => main_v68.names | 3 => main_v128.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_off2 (i : grid0.Coords) : Fin 1 → Nat :=
  let arg2 : BitVec 32 := BitVec.ofNat 32 (i 2).val
  let v24 : Index := Scalar.indexCast arg2
  ![v24.toNat]
def k0_off3 (v1 : BitVec 32) : Fin 1 → Nat :=
  let v29 : Index := Scalar.indexCast v1
  ![v29.toNat]
def k0_cond3 (v3 : BitVec 32) : BitVec 1 :=
  let c4_i32 : BitVec 32 := 4#32
  let v8 : BitVec 32 := Scalar.andi v3 c4_i32
  let c0_i32_1 : BitVec 32 := 0#32
  let v9 : BitVec 1 := Scalar.cmpi .ne v8 c0_i32_1
  let c8_i32 : BitVec 32 := 8#32
  let v10 : BitVec 32 := Scalar.andi v3 c8_i32
  let c0_i32_2 : BitVec 32 := 0#32
  let v11 : BitVec 1 := Scalar.cmpi .ne v10 c0_i32_2
  let v18 : BitVec 1 := Scalar.andi v9 v11
  let v19 : BitVec 32 := Scalar.extui v18
  let c0_i32_5 : BitVec 32 := 0#32
  let v20 : BitVec 1 := Scalar.cmpi .ne v19 c0_i32_5
  v20

def k0_off4 (v1 : BitVec 32) : Fin 1 → Nat :=
  let c1_i32_7 : BitVec 32 := 1#32
  let v33 : BitVec 32 := Scalar.addi v1 c1_i32_7
  let v34 : Index := Scalar.indexCast v33
  ![v34.toNat]
def k0_off5 (v1 : BitVec 32) : Fin 1 → Nat :=
  let v25 : Index := Scalar.indexCast v1
  ![v25.toNat]
def k0_cond4 (v3 : BitVec 32) : BitVec 1 :=
  let c2_i32 : BitVec 32 := 2#32
  let v6 : BitVec 32 := Scalar.andi v3 c2_i32
  let c0_i32_0 : BitVec 32 := 0#32
  let v7 : BitVec 1 := Scalar.cmpi .ne v6 c0_i32_0
  let v21 : BitVec 32 := Scalar.extui v7
  let c0_i32_6 : BitVec 32 := 0#32
  let v22 : BitVec 1 := Scalar.cmpi .ne v21 c0_i32_6
  v22

def k0_chk1 (v1 : BitVec 32) (v3 : BitVec 32) : Prop :=
  (∀ (k0_h3 : k0_cond3 v3 = 1#1), ∀ a, (k0_off3 v1) a + S1.size a ≤ S4.size a) ∧
  (∀ (k0_h3 : k0_cond3 v3 = 1#1), ∀ a, (k0_off4 v1) a + S1.size a ≤ S4.size a) ∧
  (∀ (k0_h4 : k0_cond4 v3 = 1#1), ∀ a, (k0_off5 v1) a + S1.size a ≤ S3.size a)
theorem k0_off3_inb : ∀ (v1 : BitVec 32) (v3 : BitVec 32) (k0_hw1 : k0_chk1 v1 v3), ∀ (k0_h3 : k0_cond3 v3 = 1#1), ∀ a, (k0_off3 v1) a + S1.size a ≤ S4.size a := fun v1 v3 k0_hw1 k0_h3 => k0_hw1.1 k0_h3
theorem k0_off4_inb : ∀ (v1 : BitVec 32) (v3 : BitVec 32) (k0_hw1 : k0_chk1 v1 v3), ∀ (k0_h3 : k0_cond3 v3 = 1#1), ∀ a, (k0_off4 v1) a + S1.size a ≤ S4.size a := fun v1 v3 k0_hw1 k0_h3 => k0_hw1.2.1 k0_h3
theorem k0_off5_inb : ∀ (v1 : BitVec 32) (v3 : BitVec 32) (k0_hw1 : k0_chk1 v1 v3), ∀ (k0_h4 : k0_cond4 v3 = 1#1), ∀ a, (k0_off5 v1) a + S1.size a ≤ S3.size a := fun v1 v3 k0_hw1 k0_h4 => k0_hw1.2.2 k0_h4

def k0_cond1 (v3 : BitVec 32) : BitVec 1 :=
  let c1_i32 : BitVec 32 := 1#32
  let v4 : BitVec 32 := Scalar.andi v3 c1_i32
  let c0_i32 : BitVec 32 := 0#32
  let v5 : BitVec 1 := Scalar.cmpi .ne v4 c0_i32
  let v12 : BitVec 32 := Scalar.extui v5
  let c0_i32_3 : BitVec 32 := 0#32
  let v13 : BitVec 1 := Scalar.cmpi .ne v12 c0_i32_3
  v13

def k0_cond2 (v3 : BitVec 32) : BitVec 1 :=
  let c4_i32 : BitVec 32 := 4#32
  let v8 : BitVec 32 := Scalar.andi v3 c4_i32
  let c0_i32_1 : BitVec 32 := 0#32
  let v9 : BitVec 1 := Scalar.cmpi .ne v8 c0_i32_1
  let c8_i32 : BitVec 32 := 8#32
  let v10 : BitVec 32 := Scalar.andi v3 c8_i32
  let c0_i32_2 : BitVec 32 := 0#32
  let v11 : BitVec 1 := Scalar.cmpi .ne v10 c0_i32_2
  let v_true : BitVec 1 := 1#1
  let v14 : BitVec 1 := Scalar.xori v11 v_true
  let v15 : BitVec 1 := Scalar.andi v9 v14
  let v16 : BitVec 32 := Scalar.extui v15
  let c0_i32_4 : BitVec 32 := 0#32
  let v17 : BitVec 1 := Scalar.cmpi .ne v16 c0_i32_4
  v17

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 2 (Rect.unit (s := S19) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 2 (Rect.unit (s := S19) ![v0.toNat] S1.size (k0_off1_inb i)) numel1_S1
  let c0_i32 : BitVec 32 := 0#32
  ![v1.toNat, arg1.toNat]

def cc0_transform_3 (k0_off1_inb : ∀ i : grid0.Coords, ∀ a, (k0_off1 i) a + S1.size a ≤ S19.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S19) ![v0.toNat] S1.size (k0_off1_inb i)) numel1_S1
  let c0_i32 : BitVec 32 := 0#32
  ![v1.toNat, arg0.toNat, arg1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2560x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x5120 : Shape := ⟨2, ![16384, 5120]⟩
abbrev S3 : Shape := ⟨1, ![3]⟩
abbrev S16384x8192 : Shape := ⟨2, ![16384, 8192]⟩
abbrev S16384 : Shape := ⟨1, ![16384]⟩
abbrev S_ : Shape := ⟨0, ![]⟩
abbrev S1x16384 : Shape := ⟨2, ![1, 16384]⟩
abbrev S3x1 : Shape := ⟨2, ![3, 1]⟩
abbrev S3x16384 : Shape := ⟨2, ![3, 16384]⟩
abbrev S16384x1 : Shape := ⟨2, ![16384, 1]⟩
abbrev S3x5120x8192 : Shape := ⟨3, ![3, 5120, 8192]⟩
abbrev S5120x8192 : Shape := ⟨2, ![5120, 8192]⟩
abbrev S1 : Shape := ⟨1, ![1]⟩
abbrev S1x5120x8192 : Shape := ⟨3, ![1, 5120, 8192]⟩

abbrev nBuf : Space → Nat
  | .hbm => 19
  | .vmem => 4
  | .smem => 2
  | _ => 0

abbrev bufTy : (tb : Table) → Fin (tcTables nBuf tb) → BufTy
  | .hbm, ⟨0, _⟩ => ⟨S16384x5120, .fp8e4m3⟩
  | .hbm, ⟨1, _⟩ => ⟨S3, .f32⟩
  | .hbm, ⟨2, _⟩ => ⟨S16384x8192, .fp8e5m2⟩
  | .hbm, ⟨3, _⟩ => ⟨S3, .f32⟩
  | .hbm, ⟨4, _⟩ => ⟨S3, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S3, .i32⟩
  | .hbm, ⟨9, _⟩ => ⟨S1x16384, .i32⟩
  | .hbm, ⟨10, _⟩ => ⟨S3x1, .i32⟩
  | .hbm, ⟨11, _⟩ => ⟨S3x16384, .i32⟩
  | .hbm, ⟨12, _⟩ => ⟨S3x16384, .i32⟩
  | .hbm, ⟨13, _⟩ => ⟨S3x16384, .i1⟩
  | .hbm, ⟨14, _⟩ => ⟨S3x16384, .i32⟩
  | .hbm, ⟨15, _⟩ => ⟨S_, .i32⟩
  | .hbm, ⟨16, _⟩ => ⟨S16384, .i32⟩
  | .hbm, ⟨17, _⟩ => ⟨S16384x1, .i32⟩
  | .hbm, ⟨18, _⟩ => ⟨S3x5120x8192, .f32⟩
  | .local _ .vmem, ⟨0, _⟩ => ⟨S16384x1, .i32⟩
  | .local _ .vmem, ⟨1, _⟩ => ⟨S16384x5120, .fp8e4m3⟩
  | .local _ .vmem, ⟨2, _⟩ => ⟨S16384x8192, .fp8e5m2⟩
  | .local _ .vmem, ⟨3, _⟩ => ⟨S3x5120x8192, .f32⟩
  | .local _ .smem, ⟨0, _⟩ => ⟨S3, .f32⟩
  | .local _ .smem, ⟨1, _⟩ => ⟨S3, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_call1_call0_v0 : Ref sig .tc := ⟨.hbm, 9, rfl⟩
abbrev main_call1_call0_v1 : Ref sig .tc := ⟨.hbm, 10, rfl⟩
abbrev main_call1_call0_v2 : Ref sig .tc := ⟨.hbm, 11, rfl⟩
abbrev main_call1_call0_v3 : Ref sig .tc := ⟨.hbm, 12, rfl⟩
abbrev main_call1_call0_v4 : Ref sig .tc := ⟨.hbm, 13, rfl⟩
abbrev main_call1_call0_v5 : Ref sig .tc := ⟨.hbm, 14, rfl⟩
abbrev main_call1_call0_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5120x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Body.lean ====
module
public import proofs.«01_k».proof.Proof.Gen.Kernel.Launch
public import proofs.«01_k».proof.Proof.Gen.Kernel.Skeleton
public import Idealize.ShloMosaic.Lib.Pipeline.Frame
public import Idealize.ShloMosaic.Lib.Tactic
public import Idealize.ShloMosaic.Lib.VecWindow
@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

abbrev tM0 : Memref sig .tc .smem S4 .i32 := Memref.whole main_v2
abbrev tM1 : Memref sig .tc .smem S19 .i32 := Memref.whole main_v21
abbrev tM2 : Memref sig .tc .smem S19 .i32 := Memref.whole main_v68
abbrev tM3 : Memref sig .tc .smem S19 .i32 := Memref.whole main_v128
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem lt_of_inb {n : Nat} {o : Fin 1 → Nat} (h : ∀ a, o a + S1.size a ≤ (⟨1, ![n]⟩ : Shape).size a) (a : Fin 1) :
    o a < (⟨1, ![n]⟩ : Shape).size a := by
  have := h a
  match a, this with
  | 0, this => exact this
/-- The word of a nineteen-entry table that a visit reads. -/
def wd (f : S19.Idx → Elt F .i32) (i : grid0.Coords) : BitVec 32 := f (fun a => ⟨k0_off1 i a, lt_of_inb (k0_off1_inb i) a⟩)
/-- The entry of a one-axis table at an offset, the first one for an offset past its end. -/
def entry {n : Nat} [NeZero n] {α : Type} (f : (⟨1, ![n]⟩ : Shape).Idx → α) (o : Fin 1 → Nat) : α :=
  if h : ∀ a, o a + S1.size a ≤ (⟨1, ![n]⟩ : Shape).size a then f (fun a => ⟨o a, lt_of_inb h a⟩)
  else f (fun a => match a with | 0 => (0 : Fin n))

/-- The four steps of a visit on the output block, each under its own bit of the visit's word: zeros, a product of the rows as they are, a product of
    the rows inside the expert's own range, the scale. -/
def acc1 (k : BitVec 32) (a : Vec F S1x2560x2048 .f32) : Vec F S1x2560x2048 .f32 := if k0_cond1 k = 1#1 then k0_pay1 else a
def acc2 (k : BitVec 32) (Y1 : Vec F S1024x2560 .fp8e4m3) (Y2 : Vec F S1024x2048 .fp8e5m2) (a : Vec F S1x2560x2048 .f32) : Vec F S1x2560x2048 .f32 :=
  if k0_cond2 k = 1#1 then k0_pay2 Y1 a Y2 else a
def acc3 (k b s n : BitVec 32) (Y1 : Vec F S1024x2560 .fp8e4m3) (Y2 : Vec F S1024x2048 .fp8e5m2) (a : Vec F S1x2560x2048 .f32) : Vec F S1x2560x2048 .f32 :=
  if k0_cond3 k = 1#1 then k0_pay3 (F := F) b s n Y1 a Y2 else a
def acc4 (k : BitVec 32) (z : F .f32) (a : Vec F S1x2560x2048 .f32) : Vec F S1x2560x2048 .f32 := if k0_cond4 k = 1#1 then k0_pay4 a z else a

/-- What a visit leaves in the output block: the four steps in order. -/
def bodyOut (i : grid0.Coords) (f0 : S4.Idx → Elt F .i32) (f1 f2 f3 : S19.Idx → Elt F .i32)
    (Y0 : Vec F S3 .f32) (Y1 : Vec F S1024x2560 .fp8e4m3) (Y2 : Vec F S1024x2048 .fp8e5m2) (Y3 : Vec F S1x2560x2048 .f32) : Vec F S1x2560x2048 .f32 :=
  acc4 (wd f3 i) (entry (n := 3) Y0 (k0_off5 (wd f1 i)))
    (acc3 (wd f3 i) (wd f2 i) (entry (n := 4) f0 (k0_off3 (wd f1 i))) (entry (n := 4) f0 (k0_off4 (wd f1 i))) Y1 Y2
      (acc2 (wd f3 i) Y1 Y2 (acc1 (wd f3 i) Y3)))

theorem pay2_congr {x x' : Vec F S1024x2560 .fp8e4m3} {a a' : Vec F S1x2560x2048 .f32} {y y' : Vec F S1024x2048 .fp8e5m2}
    (hx : x = x') (ha : a = a') (hy : y = y') : k0_pay2 x a y = k0_pay2 x' a' y' := by rw [hx, ha, hy]
theorem pay3_congr {b b' s s' n n' : BitVec 32} {x x' : Vec F S1024x2560 .fp8e4m3} {a a' : Vec F S1x2560x2048 .f32} {y y' : Vec F S1024x2048 .fp8e5m2}
    (hb : b = b') (hs : s = s') (hn : n = n') (hx : x = x') (ha : a = a') (hy : y = y') :
    k0_pay3 (F := F) b s n x a y = k0_pay3 (F := F) b' s' n' x' a' y' := by rw [hb, hs, hn, hx, ha, hy]
theorem pay4_congr {a a' : Vec F S1x2560x2048 .f32} {z z' : F .f32} (ha : a = a') (hz : z = z') : k0_pay4 a z = k0_pay4 a' z' := by rw [ha, hz]

/-- A word loaded from a one-axis buffer in scalar memory is the entry at the offset. -/
theorem readAt_entry {n : Nat} [NeZero n] {e : EltTy} (M : Memref sig .tc .smem ⟨1, ![n]⟩ e) (g : M.view.ty.Contents (Elt F)) (o : Fin 1 → Nat)
    (h : ∀ a, o a + S1.size a ≤ (⟨1, ![n]⟩ : Shape).size a) (hp : 0 < (Rect.unit (s := ⟨1, ![n]⟩) o S1.size h).shape.numel) :
    M.view.readAt (Elt F) (Rect.unit (s := ⟨1, ![n]⟩) o S1.size h).toLoadRect g (Shape.Idx.first hp) = entry (n := n) (M.view.read (Elt F) g) o := by
  unfold entry
  rw [dif_pos h]
  exact congrArg (M.view.read (Elt F) g) (funext fun a => Fin.ext (Nat.add_zero _))
theorem readAt_wd (c : Dev nD) (M : Memref sig .tc .smem S19 .i32) (g : M.view.ty.Contents (Elt F)) (i : grid0.Coords)
    (h : ∀ a, k0_off1 i a + S1.size a ≤ S19.size a) (hp : 0 < (Rect.unit (s := S19) (k0_off1 i) S1.size h).shape.numel) :
    M.view.readAt (Elt F) (Rect.unit (s := S19) (k0_off1 i) S1.size h).toLoadRect g (Shape.Idx.first hp) = wd (M.view.read (Elt F) g) i :=
  congrArg (M.view.read (Elt F) g) (funext fun a => Fin.ext (Nat.add_zero _))

set_option maxHeartbeats 4000000 in
theorem kernelRun (c : Dev nD) (i : grid0.Coords) (arg7 : Memref sig .tc .smem S3 .f32) (harg7 : arg7.IsWhole)
   (arg8 : Memref sig .tc .vmem S1024x2560 .fp8e4m3) (harg8 : arg8.IsWhole) (arg9 : Memref sig .tc .vmem S1024x2048 .fp8e5m2) (harg9 : arg9.IsWhole) (arg10 : Memref sig .tc .vmem S1x2560x2048 .f32) (harg10 : arg10.IsWhole)
   (f0 : TbBuf (F := F) c tM0) (f1 : TbBuf (F := F) c tM1) (f2 : TbBuf (F := F) c tM2) (f3 : TbBuf (F := F) c tM3)
   (Y0 : Vec F S3 .f32) (Y1 : Vec F S1024x2560 .fp8e4m3) (Y2 : Vec F S1024x2048 .fp8e5m2) (Y3 : Vec F S1x2560x2048 .f32)
   (hchk : k0_chk1 (wd f1 i) (wd f3 i)) (K : PUnit → sProp 𝕄) :
    iprop(tbPt c tM0 f0 ∗ tbPt c tM1 f1 ∗ tbPt c tM2 f2 ∗ tbPt c tM3 f3
       ∗ owns (c : Thread nD τ) arg7 fullShare Y0 ∗ owns (c : Thread nD τ) arg8 fullShare Y1 ∗ owns (c : Thread nD τ) arg9 fullShare Y2
       ∗ owns (c : Thread nD τ) arg10 fullShare Y3
       ∗ (iprop(tbPt c tM0 f0 ∗ tbPt c tM1 f1 ∗ tbPt c tM2 f2 ∗ tbPt c tM3 f3
           ∗ owns (c : Thread nD τ) arg7 fullShare Y0 ∗ owns (c : Thread nD τ) arg8 fullShare Y1 ∗ owns (c : Thread nD τ) arg9 fullShare Y2
           ∗ owns (c : Thread nD τ) arg10 fullShare (bodyOut i f0 f1 f2 f3 Y0 Y1 Y2 Y3)) -∗ K ⟨⟩))
      ⊢ wp frame (wpE (defs₀ (F := F)) Variants.none c none) Set.univ
          (cc0_tgmm i tM0 (Memref.isWhole_whole _) tM1 (Memref.isWhole_whole _) tM2 (Memref.isWhole_whole _) tM3 (Memref.isWhole_whole _) arg7 harg7 arg8 harg8 arg9 harg9 arg10 harg10) K := by
  simp only [cc0_tgmm_eq_skeleton]; unfold cc0_tgmm_skel
  unfold owns
  iintro ⟨T0, T1, T2, T3, ⟨%g0, %e0, H0⟩, ⟨%g1, %e1, H1⟩, ⟨%g2, %e2, H2⟩, ⟨%g3, %e3, H3⟩, Hk⟩
  by_cases h1 : k0_cond1 (wd f3 i) = 1#1
  · by_cases h2 : k0_cond2 (wd f3 i) = 1#1
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_pos h2, if_pos h1]
          refine (View.read_writes_full _ _ _ _ _).trans ?_
          subst e0 e1 e2 e3
          refine pay4_congr ?_ (readAt_entry arg7 _ _ _ _)
          refine (View.readCov_full _ _ _ _ _).trans ?_
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          refine pay2_congr (View.readAt_full _ _ _) ?_ (View.readAt_full _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_pos h2, if_pos h1]
          refine (View.read_writes_full _ _ _ _ _).trans ?_
          subst e0 e1 e2 e3
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          refine pay2_congr (View.readAt_full _ _ _) ?_ (View.readAt_full _ _ _)
          refine (View.readCov_full _ _ _ _ _).trans ?_
          exact rfl
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_pos h2, if_pos h1]
          refine (View.read_writes_full _ _ _ _ _).trans ?_
          subst e0 e1 e2 e3
          refine pay4_congr ?_ (readAt_entry arg7 _ _ _ _)
          refine (View.readCov_full _ _ _ _ _).trans ?_
          refine pay2_congr (View.readAt_full _ _ _) ?_ (View.readAt_full _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_pos h2, if_pos h1]
          refine (View.read_writes_full _ _ _ _ _).trans ?_
          subst e0 e1 e2 e3
          refine pay2_congr (View.readAt_full _ _ _) ?_ (View.readAt_full _ _ _)
          refine (View.readCov_full _ _ _ _ _).trans ?_
          exact rfl
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_neg h2, if_pos h1]
          refine (View.read_writes_full _ _ _ _ _).trans ?_
          subst e0 e1 e2 e3
          refine pay4_congr ?_ (readAt_entry arg7 _ _ _ _)
          refine (View.readCov_full _ _ _ _ _).trans ?_
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_neg h2, if_pos h1]
          refine (View.read_writes_full _ _ _ _ _).trans ?_
          subst e0 e1 e2 e3
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact rfl
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_neg h2, if_pos h1]
          refine (View.read_writes_full _ _ _ _ _).trans ?_
          subst e0 e1 e2 e3
          refine pay4_congr ?_ (readAt_entry arg7 _ _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_neg h2, if_pos h1]
          refine (View.read_writes_full _ _ _ _ _).trans ?_
          subst e0 e1 e2 e3
          exact rfl
  · by_cases h2 : k0_cond2 (wd f3 i) = 1#1
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_pos h2, if_neg h1]
          refine (View.read_writes_full _ _ _ _ _).trans ?_
          subst e0 e1 e2 e3
          refine pay4_congr ?_ (readAt_entry arg7 _ _ _ _)
          refine (View.readCov_full _ _ _ _ _).trans ?_
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact pay2_congr (View.readAt_full _ _ _) (View.readAt_full _ _ _) (View.readAt_full _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_pos h2, if_neg h1]
          refine (View.read_writes_full _ _ _ _ _).trans ?_
          subst e0 e1 e2 e3
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact pay2_congr (View.readAt_full _ _ _) (View.readAt_full _ _ _) (View.readAt_full _ _ _)
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_pos h2, if_neg h1]
          refine (View.read_writes_full _ _ _ _ _).trans ?_
          subst e0 e1 e2 e3
          refine pay4_congr ?_ (readAt_entry arg7 _ _ _ _)
          refine (View.readCov_full _ _ _ _ _).trans ?_
          exact pay2_congr (View.readAt_full _ _ _) (View.readAt_full _ _ _) (View.readAt_full _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_pos h2, if_neg h1]
          refine (View.read_writes_full _ _ _ _ _).trans ?_
          subst e0 e1 e2 e3
          exact pay2_congr (View.readAt_full _ _ _) (View.readAt_full _ _ _) (View.readAt_full _ _ _)
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_neg h2, if_neg h1]
          refine (View.read_writes_full _ _ _ _ _).trans ?_
          subst e0 e1 e2 e3
          refine pay4_congr ?_ (readAt_entry arg7 _ _ _ _)
          refine (View.readCov_full _ _ _ _ _).trans ?_
          exact pay3_congr (readAt_wd c tM2 _ i _ _) (readAt_entry tM0 _ _ _ _) (readAt_entry tM0 _ _ _ _) (View.readAt_full _ _ _) (View.readAt_full _ _ _) (View.readAt_full _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_neg h2, if_neg h1]
          refine (View.read_writes_full _ _ _ _ _).trans ?_
          subst e0 e1 e2 e3
          exact pay3_congr (readAt_wd c tM2 _ i _ _) (readAt_entry tM0 _ _ _ _) (readAt_entry tM0 _ _ _ _) (View.readAt_full _ _ _) (View.readAt_full _ _ _) (View.readAt_full _ _ _)
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_neg h2, if_neg h1]
          refine (View.read_writes_full _ _ _ _ _).trans ?_
          subst e0 e1 e2 e3
          exact pay4_congr (View.readAt_full _ _ _) (readAt_entry arg7 _ _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_neg h2, if_neg h1]
          exact e3
-- ==== Proof.Visits.lean ====
/-
  The table of visits as words: which expert a visit belongs to, which block of rows it reads and what it does there, over the three group sizes.
  Then the same table over natural numbers, for sizes that are not negative and that add up to at most the number of rows.
-/
module
public import Idealize.ShloMosaic.Lib.Routing.Words
public import Idealize.ShloMosaic.Lib.WordArith
@[expose] public section
namespace Cert.Visits
open Idealize.ShloMosaic Idealize.ShloMosaic.Routing Idealize.ShloMosaic.WordArith

/-! ## Words -/

/-- The sign of a word. -/
def sgn (x : BitVec 32) : BitVec 32 := if x = 0 then 0 else if BitVec.msb x = true then -1 else 1
/-- Floor division by the rows of a block. -/
def fdiv (x : BitVec 32) : BitVec 32 :=
  Scalar.select (IntOp.andi (IntOp.cmpi .ne (sgn x) (sgn 1024#32)) (IntOp.cmpi .ne (IntOp.remsi ArithUnit.host x 1024#32) 0#32))
    (IntOp.subi (IntOp.divsi ArithUnit.host x 1024#32) 1#32) (IntOp.divsi ArithUnit.host x 1024#32)

variable (g : Fin 3 → BitVec 32)
/-- Where the experts' ranges of rows begin and end. -/
def bnd : Fin 4 → BitVec 32 := ![0#32, g 0, g 0 + g 1, g 0 + g 1 + g 2]
/-- Whether an expert has no rows. -/
def none (e : Fin 3) : BitVec 1 := IntOp.cmpi .sle (bnd g e.succ) (bnd g e.castSucc)
def b0 (e : Fin 3) : BitVec 32 := fdiv (bnd g e.castSucc)
def b1 (e : Fin 3) : BitVec 32 :=
  Scalar.select (none g e) (IntOp.addi (b0 g e) 1#32) (fdiv (IntOp.subi (IntOp.addi (bnd g e.succ) 1024#32) 1#32))
/-- How many visits an expert has, and how many have been made when it is done. -/
def cnt (e : Fin 3) : BitVec 32 := IntOp.subi (b1 g e) (b0 g e)
def cum : Fin 3 → BitVec 32 := ![cnt g 0, cnt g 0 + cnt g 1, cnt g 0 + cnt g 1 + cnt g 2]
def hit (e : Fin 3) (t : ℕ) : BitVec 32 := (IntOp.cmpi .sle (cum g e) (BitVec.ofNat 32 t)).setWidth 32
/-- A visit's expert. -/
def vexp (t : ℕ) : BitVec 32 := IntOp.minsi (hit g 0 t + hit g 1 t + hit g 2 t) 2#32
theorem vexp_lt (t : ℕ) : (vexp g t).toNat < 3 := by
  unfold vexp hit
  generalize IntOp.cmpi .sle (cum g 0) (BitVec.ofNat 32 t) = a
  generalize IntOp.cmpi .sle (cum g 1) (BitVec.ofNat 32 t) = b
  generalize IntOp.cmpi .sle (cum g 2) (BitVec.ofNat 32 t) = c
  revert a b c; decide
def ve (t : ℕ) : Fin 3 := ⟨(vexp g t).toNat, vexp_lt g t⟩
theorem vexp_ofNat (t : ℕ) : vexp g t = BitVec.ofNat 32 (ve g t).val := by
  apply BitVec.eq_of_toNat_eq
  rw [BitVec.toNat_ofNat]
  exact (Nat.mod_eq_of_lt (lt_trans (vexp_lt g t) (by decide))).symm
def live (t : ℕ) : BitVec 1 := IntOp.cmpi .slt (BitVec.ofNat 32 t) (cum g 2)
/-- How many visits of its expert come before this one. -/
def kk (t : ℕ) : BitVec 32 := IntOp.subi (BitVec.ofNat 32 t) (IntOp.subi (cum g (ve g t)) (cnt g (ve g t)))
def vraw (t : ℕ) : BitVec 32 :=
  Scalar.select (live g t) (IntOp.addi (b0 g (ve g t)) (kk g t)) (IntOp.subi (IntOp.addi (b0 g (ve g t)) (cnt g (ve g t))) 1#32)
/-- A visit's block of rows. -/
def vblk (t : ℕ) : BitVec 32 := IntOp.minsi 15#32 (IntOp.maxsi 0#32 (vraw g t))
theorem vblk_lt (t : ℕ) : (vblk g t).toNat < 16 := by
  unfold vblk
  generalize vraw g t = x
  have h := toNat_maxsi_zero x
  have h1 := two_mul_toNat_maxsi_zero_lt x
  have h2 := toNat_minsi_of_lt 15#32 (IntOp.maxsi 0#32 x) (by decide) (by show (Scalar.maxsi 0#32 x).toNat < _; omega)
  rw [h2]
  exact lt_of_le_of_lt (min_le_left _ _) (by decide)
def part (t : ℕ) : BitVec 1 :=
  IntOp.ori (IntOp.cmpi .sgt (bnd g (ve g t).castSucc) (IntOp.muli (vblk g t) 1024#32))
    (IntOp.cmpi .slt (bnd g (ve g t).succ) (IntOp.muli (IntOp.addi (vblk g t) 1#32) 1024#32))
/-- What a visit does: a bit for each of first, last, with rows, not all of the block's rows. -/
def kraw (t : ℕ) : BitVec 32 :=
  IntOp.addi (IntOp.addi (IntOp.addi
    (IntOp.muli ((IntOp.cmpi .eq (kk g t) 0#32).setWidth 32) 1#32)
    (IntOp.muli ((IntOp.cmpi .eq (kk g t) (IntOp.subi (cnt g (ve g t)) 1#32)).setWidth 32) 2#32))
    (IntOp.muli ((~~~ none g (ve g t)).setWidth 32) 4#32))
    (IntOp.muli ((part g t).setWidth 32) 8#32)
def vkind (t : ℕ) : BitVec 32 := Scalar.select (live g t) (kraw g t) 0#32

/-! ## Natural numbers -/

variable (G : Fin 3 → ℕ)
def bN : Fin 4 → ℕ := ![0, G 0, G 0 + G 1, G 0 + G 1 + G 2]
def c0 (e : Fin 3) : ℕ := bN G e.castSucc / 1024
def c1 (e : Fin 3) : ℕ := if bN G e.succ ≤ bN G e.castSucc then c0 G e + 1 else (bN G e.succ + 1023) / 1024
def nN (e : Fin 3) : ℕ := c1 G e - c0 G e
/-- The first visit of an expert. -/
def aN : Fin 3 → ℕ := ![0, nN G 0, nN G 0 + nN G 1]
def tot : ℕ := nN G 0 + nN G 1 + nN G 2
def veN (t : ℕ) : Fin 3 := if t < nN G 0 then 0 else if t < nN G 0 + nN G 1 then 1 else 2
def kN (t : ℕ) : ℕ := t - aN G (veN G t)
def blkN (t : ℕ) : ℕ := if t < tot G then c0 G (veN G t) + kN G t else c0 G 2 + nN G 2 - 1
/-- The bits of a visit's kind. -/
def isFirst (t : ℕ) : Bool := decide (t < tot G ∧ kN G t = 0)
def isLast (t : ℕ) : Bool := decide (t < tot G ∧ kN G t + 1 = nN G (veN G t))
def hasRows (t : ℕ) : Bool := decide (t < tot G ∧ bN G (veN G t).castSucc < bN G (veN G t).succ)
def isPart (t : ℕ) : Bool :=
  decide (t < tot G ∧ (min 15 (blkN G t) * 1024 < bN G (veN G t).castSucc ∨ bN G (veN G t).succ < (min 15 (blkN G t) + 1) * 1024))

section Facts
variable {G} (hG : G 0 + G 1 + G 2 ≤ 16384)
include hG
theorem bN_le (e : Fin 4) : bN G e ≤ 16384 := by
  fin_cases e <;> simp [bN] <;> omega
theorem bN_mono (e : Fin 3) : bN G e.castSucc ≤ bN G e.succ := by
  fin_cases e <;> simp [bN]
theorem c0_lt_c1 (e : Fin 3) : c0 G e < c1 G e := by
  have := bN_mono hG e
  unfold c1 c0; split <;> omega
theorem nN_pos (e : Fin 3) : 0 < nN G e := by have := c0_lt_c1 hG e; unfold nN; omega
theorem nN_le (e : Fin 3) : nN G e ≤ 17 := by
  have := bN_le hG e.succ
  unfold nN c1 c0; split <;> omega
theorem tot_le : tot G ≤ 19 := by
  unfold tot nN c1 c0
  simp only [bN, Fin.isValue]
  have e0 : (Fin.castSucc (0 : Fin 3)) = (0 : Fin 4) := rfl
  have e1 : (Fin.castSucc (1 : Fin 3)) = (1 : Fin 4) := rfl
  have e2 : (Fin.castSucc (2 : Fin 3)) = (2 : Fin 4) := rfl
  have s0 : (Fin.succ (0 : Fin 3)) = (1 : Fin 4) := rfl
  have s1 : (Fin.succ (1 : Fin 3)) = (2 : Fin 4) := rfl
  have s2 : (Fin.succ (2 : Fin 3)) = (3 : Fin 4) := rfl
  rw [e0, e1, e2, s0, s1, s2]
  show ((if G 0 ≤ 0 then 0 / 1024 + 1 else (G 0 + 1023) / 1024) - 0 / 1024) + ((if G 0 + G 1 ≤ G 0 then G 0 / 1024 + 1 else (G 0 + G 1 + 1023) / 1024) - G 0 / 1024)
    + ((if G 0 + G 1 + G 2 ≤ G 0 + G 1 then (G 0 + G 1) / 1024 + 1 else (G 0 + G 1 + G 2 + 1023) / 1024) - (G 0 + G 1) / 1024) ≤ 19
  split_ifs <;> omega
end Facts

/-! ## The words are the numbers -/

theorem fdiv_ofNat {n : ℕ} (hn : n < 2 ^ 31) : fdiv (BitVec.ofNat 32 n) = BitVec.ofNat 32 (n / 1024) := by
  unfold fdiv sgn
  rw [show (1024#32 : BitVec 32) = BitVec.ofNat 32 1024 from rfl, remsi_word .host hn (by decide) (by decide), divsi_word .host hn (by decide) (by decide),
    msb_ofNat32 hn, msb_ofNat32 (show 1024 < 2 ^ 31 by decide)]
  rcases Nat.eq_zero_or_pos n with h | h
  · subst h; rfl
  · rw [if_neg (ofNat32_ne_zero h (by omega)), if_neg (by decide)]
    show Scalar.select (IntOp.cmpi .ne (1 : BitVec 32) 1 &&& _) _ _ = _
    rw [show IntOp.cmpi .ne (1 : BitVec 32) 1 = 0#1 from by decide, BitVec.zero_and]
    rfl

theorem cmp_le {a b : ℕ} (ha : a < 2 ^ 31) (hb : b < 2 ^ 31) : IntOp.cmpi .sle (BitVec.ofNat 32 a) (BitVec.ofNat 32 b) = BitVec.ofBool (decide (a ≤ b)) :=
  congrArg BitVec.ofBool (sle_ofNat32 ha hb)
theorem cmp_lt {a b : ℕ} (ha : a < 2 ^ 31) (hb : b < 2 ^ 31) : IntOp.cmpi .slt (BitVec.ofNat 32 a) (BitVec.ofNat 32 b) = BitVec.ofBool (decide (a < b)) :=
  congrArg BitVec.ofBool (slt_ofNat32 ha hb)
theorem cmp_gt {a b : ℕ} (ha : a < 2 ^ 31) (hb : b < 2 ^ 31) : IntOp.cmpi .sgt (BitVec.ofNat 32 a) (BitVec.ofNat 32 b) = BitVec.ofBool (decide (b < a)) :=
  congrArg BitVec.ofBool (slt_ofNat32 hb ha)
theorem cmp_eq {a b : ℕ} (ha : a < 2 ^ 31) (hb : b < 2 ^ 31) : IntOp.cmpi .eq (BitVec.ofNat 32 a) (BitVec.ofNat 32 b) = BitVec.ofBool (decide (a = b)) := by
  refine congrArg BitVec.ofBool ?_
  by_cases h : a = b
  · subst h; simp
  · have : BitVec.ofNat 32 a ≠ BitVec.ofNat 32 b := fun e => h (by
      have := congrArg BitVec.toNat e
      rwa [toNat_ofNat_of_lt _ (by omega), toNat_ofNat_of_lt _ (by omega)] at this)
    simp [h, this]
theorem sel_bool {α : Type} (p : Prop) [Decidable p] (a b : α) : Scalar.select (BitVec.ofBool (decide p)) a b = if p then a else b := by
  by_cases h : p
  · simp only [h, decide_true, if_true]; rfl
  · simp only [h, decide_false, if_false]; rfl
theorem add_w (a b : ℕ) : BitVec.ofNat 32 a + BitVec.ofNat 32 b = BitVec.ofNat 32 (a + b) := (BitVec.ofNat_add a b).symm
theorem addi_w (a b : ℕ) : IntOp.addi (BitVec.ofNat 32 a) (BitVec.ofNat 32 b) = BitVec.ofNat 32 (a + b) := add_w a b
theorem subi_w {a b : ℕ} (h : b ≤ a) : IntOp.subi (BitVec.ofNat 32 a) (BitVec.ofNat 32 b) = BitVec.ofNat 32 (a - b) := ofNat32_sub h
theorem muli_w (a b : ℕ) : IntOp.muli (BitVec.ofNat 32 a) (BitVec.ofNat 32 b) = BitVec.ofNat 32 (a * b) := (BitVec.ofNat_mul a b).symm

section Decode
variable {g G} (hg : ∀ e, g e = BitVec.ofNat 32 (G e)) (hG : G 0 + G 1 + G 2 ≤ 16384)
include hg
theorem bnd_eq (e : Fin 4) : bnd g e = BitVec.ofNat 32 (bN G e) := by
  fin_cases e
  · rfl
  · exact hg 0
  · show g 0 + g 1 = BitVec.ofNat 32 (G 0 + G 1)
    rw [hg, hg, add_w]
  · show g 0 + g 1 + g 2 = BitVec.ofNat 32 (G 0 + G 1 + G 2)
    rw [hg, hg, hg, add_w, add_w]
include hG
theorem none_eq (e : Fin 3) : none g e = BitVec.ofBool (decide (bN G e.succ ≤ bN G e.castSucc)) := by
  have h1 := bN_le hG e.succ; have h2 := bN_le hG e.castSucc
  unfold none
  rw [bnd_eq hg, bnd_eq hg, cmp_le (by omega) (by omega)]
theorem b0_eq (e : Fin 3) : b0 g e = BitVec.ofNat 32 (c0 G e) := by
  have h2 := bN_le hG e.castSucc
  unfold b0
  rw [bnd_eq hg, fdiv_ofNat (by omega)]; rfl
theorem b1_eq (e : Fin 3) : b1 g e = BitVec.ofNat 32 (c1 G e) := by
  have h2 := bN_le hG e.succ
  unfold b1 c1
  rw [none_eq hg hG, b0_eq hg hG, bnd_eq hg, sel_bool, show (1024#32 : BitVec 32) = BitVec.ofNat 32 1024 from rfl,
    show (1#32 : BitVec 32) = BitVec.ofNat 32 1 from rfl, addi_w, addi_w, subi_w (by omega), fdiv_ofNat (by omega)]
  split <;> rfl
theorem cnt_eq (e : Fin 3) : cnt g e = BitVec.ofNat 32 (nN G e) := by
  have := c0_lt_c1 hG e
  unfold cnt
  rw [b0_eq hg hG, b1_eq hg hG, subi_w (by omega)]; rfl
theorem cum_eq (e : Fin 3) : cum g e = BitVec.ofNat 32 (aN G e + nN G e) := by
  fin_cases e
  · show cnt g 0 = BitVec.ofNat 32 (0 + nN G 0)
    rw [cnt_eq hg hG, Nat.zero_add]
  · show cnt g 0 + cnt g 1 = BitVec.ofNat 32 (nN G 0 + nN G 1)
    rw [cnt_eq hg hG, cnt_eq hg hG, add_w]
  · show cnt g 0 + cnt g 1 + cnt g 2 = BitVec.ofNat 32 (nN G 0 + nN G 1 + nN G 2)
    rw [cnt_eq hg hG, cnt_eq hg hG, cnt_eq hg hG, add_w, add_w]
theorem hit_eq (e : Fin 3) {t : ℕ} (ht : t < 19) : hit g e t = BitVec.ofNat 32 (if aN G e + nN G e ≤ t then 1 else 0) := by
  have h0 := nN_le hG 0; have h1 := nN_le hG 1; have h2 := nN_le hG 2
  have : aN G e + nN G e < 2 ^ 31 := by
    fin_cases e <;> simp [aN] <;> omega
  unfold hit
  rw [cum_eq hg hG, cmp_le this (by omega), setWidth_ofBool]
theorem ve_eq {t : ℕ} (ht : t < 19) : ve g t = veN G t := by
  have h0 := nN_pos hG 0; have h1 := nN_pos hG 1; have h2 := nN_pos hG 2
  apply Fin.ext
  show (vexp g t).toNat = _
  unfold vexp
  rw [hit_eq hg hG _ ht, hit_eq hg hG _ ht, hit_eq hg hG _ ht]
  show (IntOp.minsi (BitVec.ofNat 32 (if 0 + nN G 0 ≤ t then 1 else 0) + BitVec.ofNat 32 (if nN G 0 + nN G 1 ≤ t then 1 else 0)
    + BitVec.ofNat 32 (if nN G 0 + nN G 1 + nN G 2 ≤ t then 1 else 0)) 2#32).toNat = _
  unfold veN
  split_ifs <;> first | rfl | omega
theorem vexp_eq {t : ℕ} (ht : t < 19) : vexp g t = BitVec.ofNat 32 (veN G t).val := by
  rw [← ve_eq hg hG ht]; exact vexp_ofNat g t
theorem live_eq {t : ℕ} (ht : t < 19) : live g t = BitVec.ofBool (decide (t < tot G)) := by
  have := tot_le hG
  unfold live
  rw [cum_eq hg hG]
  show IntOp.cmpi .slt _ (BitVec.ofNat 32 (tot G)) = _
  rw [cmp_lt (by omega) (by omega)]
omit hg in
theorem aN_le {t : ℕ} (h : t < tot G) : aN G (veN G t) ≤ t ∧ t < aN G (veN G t) + nN G (veN G t) := by
  unfold tot at h
  unfold veN
  split_ifs
  · show 0 ≤ t ∧ t < 0 + nN G 0; omega
  · show nN G 0 ≤ t ∧ t < nN G 0 + nN G 1; omega
  · show nN G 0 + nN G 1 ≤ t ∧ t < nN G 0 + nN G 1 + nN G 2; omega
theorem kk_eq {t : ℕ} (ht : t < 19) (h : t < tot G) : kk g t = BitVec.ofNat 32 (kN G t) := by
  have := aN_le hG h
  unfold kk kN
  rw [ve_eq hg hG ht, cum_eq hg hG, cnt_eq hg hG, subi_w (by omega), Nat.add_sub_cancel, subi_w this.1]
omit hg in
theorem veN_dead {t : ℕ} (h : ¬ t < tot G) : veN G t = 2 := by
  unfold tot at h
  unfold veN
  rw [if_neg (by omega), if_neg (by omega)]
theorem vraw_eq {t : ℕ} (ht : t < 19) : vraw g t = BitVec.ofNat 32 (blkN G t) := by
  unfold vraw blkN
  rw [live_eq hg hG ht, sel_bool]
  split_ifs with h
  · rw [ve_eq hg hG ht, b0_eq hg hG, kk_eq hg hG ht h, addi_w]
  · have := nN_pos hG 2
    rw [ve_eq hg hG ht, veN_dead hG h, b0_eq hg hG, cnt_eq hg hG, addi_w, show (1#32 : BitVec 32) = BitVec.ofNat 32 1 from rfl, subi_w (by omega)]
omit hg in
theorem c0_le (e : Fin 3) : c0 G e ≤ 16 := by have := bN_le hG e.castSucc; unfold c0; omega
omit hg in
theorem blkN_lt (t : ℕ) (ht : t < 19) : blkN G t < 40 := by
  have h0 := c0_le hG (veN G t); have h1 := c0_le hG 2; have h2 := nN_le hG 2
  unfold blkN kN; split_ifs <;> omega
theorem vblk_eq {t : ℕ} (ht : t < 19) : vblk g t = BitVec.ofNat 32 (min 15 (blkN G t)) := by
  have hb := blkN_lt hG t ht
  unfold vblk
  rw [vraw_eq hg hG ht, maxsi_zero_left (by omega)]
  show (if (15#32).slt (BitVec.ofNat 32 (blkN G t)) then 15#32 else _) = _
  rw [show (15#32 : BitVec 32) = BitVec.ofNat 32 15 from rfl, slt_ofNat32 (by decide) (by omega)]
  by_cases h : 15 < blkN G t
  · rw [if_pos (by simpa using h), min_eq_left (by omega)]
  · rw [if_neg (by simpa using h), min_eq_right (by omega)]
theorem part_eq {t : ℕ} (ht : t < 19) : part g t = BitVec.ofBool (decide (min 15 (blkN G t) * 1024 < bN G (veN G t).castSucc ∨
    bN G (veN G t).succ < (min 15 (blkN G t) + 1) * 1024)) := by
  have h1 := bN_le hG (veN G t).castSucc; have h2 := bN_le hG (veN G t).succ
  have h3 : min 15 (blkN G t) ≤ 15 := min_le_left _ _
  unfold part
  rw [ve_eq hg hG ht, vblk_eq hg hG ht, bnd_eq hg, bnd_eq hg, show (1024#32 : BitVec 32) = BitVec.ofNat 32 1024 from rfl,
    show (1#32 : BitVec 32) = BitVec.ofNat 32 1 from rfl, muli_w, addi_w, muli_w, cmp_gt (by omega) (by omega), cmp_lt (by omega) (by omega),
    Bool.decide_or]
  exact ori_ofBool _ _
theorem not_w (p : Prop) [Decidable p] : ~~~ BitVec.ofBool (decide p) = BitVec.ofBool (decide (¬ p)) := by
  by_cases h : p <;> simp [h]
theorem vkind_eq {t : ℕ} (ht : t < 19) : vkind g t = BitVec.ofNat 32 ((isFirst G t).toNat + (isLast G t).toNat * 2 + (hasRows G t).toNat * 4
    + (isPart G t).toNat * 8) := by
  unfold vkind
  rw [live_eq hg hG ht, sel_bool]
  unfold isFirst isLast hasRows isPart
  split_ifs with h
  · have hk := aN_le hG h
    have hn := nN_pos hG (veN G t); have hn' := nN_le hG (veN G t)
    have hkN : kN G t < 2 ^ 31 := by unfold kN; omega
    unfold kraw
    rw [kk_eq hg hG ht h, ve_eq hg hG ht, cnt_eq hg hG, none_eq hg hG, part_eq hg hG ht, show (1#32 : BitVec 32) = BitVec.ofNat 32 1 from rfl, subi_w (by omega),
      show (0#32 : BitVec 32) = BitVec.ofNat 32 0 from rfl, cmp_eq hkN (by decide), cmp_eq hkN (by omega), not_w hg hG,
      setWidth_ofBool, setWidth_ofBool, setWidth_ofBool, setWidth_ofBool, show (2#32 : BitVec 32) = BitVec.ofNat 32 2 from rfl,
      show (4#32 : BitVec 32) = BitVec.ofNat 32 4 from rfl, show (8#32 : BitVec 32) = BitVec.ofNat 32 8 from rfl,
      muli_w, muli_w, muli_w, muli_w, addi_w, addi_w, addi_w]
    have e1 : (kN G t = nN G (veN G t) - 1) ↔ (kN G t + 1 = nN G (veN G t)) := by omega
    simp only [h, true_and, e1, not_le, Nat.mul_one]
    refine congrArg (BitVec.ofNat 32) ?_
    simp only [Bool.toNat, Bool.cond_decide]
  · simp only [h, false_and, decide_false]; rfl
end Decode
end Cert.Visits
-- ==== Proof.Reads.lean ====
/-
  The host operations that the table of visits is made of, read at an entry: a running sum of three words, a sum of three bits, an entry taken at an
  index that counts from the end when it is negative.
-/
module
public import Idealize.ShloMosaic.Lib.Routing.Ops
public import Idealize.ShloMosaic.Lib.Routing.OpsSet
public import proofs.«01_k».proof.Proof.Visits
@[expose] public section
namespace Cert.Visits
open Idealize.ShloMosaic Idealize.ShloMosaic.Routing Idealize.ShloMosaic.ValueIdx Idealize.ShloMosaic.WordArith

/-- The running sum of three words. -/
theorem cumsum3 (x : IVec (⟨1, ![3]⟩ : Shape) 32) (init : IVec shape0 32) (hinit : init ix0 = 0#32)
    (h : (⟨1, ![3]⟩ : Shape).ReduceWindows (![3] : Fin 1 → Nat) ![1] ![2] ![0] ⟨1, ![3]⟩) (hu : 0 < shape0.numel) (j : Fin 3) :
    Host.reduceWindow IntOp.addi ![3] ![1] ![2] ![0] x init h hu (ix1 j)
      = ![x (ix1 0), x (ix1 0) + x (ix1 1), x (ix1 0) + x (ix1 1) + x (ix1 2)] j := by
  have hx : ∀ i : Fin 3, x (ix1 i) = BitVec.ofNat 32 ((fun n : ℕ => if hn : n < 3 then (x (ix1 ⟨n, hn⟩)).toNat else 0) i.val) := fun i => by
    show _ = BitVec.ofNat 32 (if hn : i.val < 3 then _ else _)
    rw [dif_pos i.isLt, BitVec.ofNat_toNat, BitVec.setWidth_eq]
  refine (cumsum1 (N := 3) (Nm1 := 2) rfl x (fun n : ℕ => if hn : n < 3 then (x (ix1 ⟨n, hn⟩)).toNat else 0) hx init hinit h hu j).trans ?_
  have e0 := hx 0; have e1 := hx 1; have e2 := hx 2
  rw [e0, e1, e2, ← BitVec.ofNat_add, ← BitVec.ofNat_add]
  fin_cases j
  · simp [List.range_succ]
  · simp [List.range_succ]
  · simp [List.range_succ, Nat.add_assoc]

/-- The sum down a column of three words. -/
theorem reduce3 {N : ℕ} (x : IVec (⟨2, ![3, N]⟩ : Shape) 32) (init : IVec shape0 32) (hinit : init ix0 = 0#32)
    (h : (⟨2, ![3, N]⟩ : Shape).ReducesTo [0] ⟨1, ![N]⟩) (hu : 0 < shape0.numel) (t : Fin N)
    (hr : (⟨2, ![3, N]⟩ : Shape).Reduces [0] ⟨1, ![N]⟩ := by decide) :
    Host.reduce IntOp.addi x init h hu (ix1 t) = x (ix2 0 t) + x (ix2 1 t) + x (ix2 2 t) := by
  rw [Host.reduce_eq_fold_single IntOp.addi x init h hr hu (ix1 t), show init (Shape.Idx.first hu) = 0#32 from (congrArg init (eq_ix0 _)).trans hinit]
  have e : ∀ a : Fin 3, (x ∘ hr.lift (ix1 t)) a = x (ix2 a t) := fun a => congrArg x (funext fun b => by
    match b with
    | ⟨0, _⟩ => rfl
    | ⟨1, _⟩ => rfl)
  have k : ∀ f : Fin 3 → BitVec 32, (Finset.univ : Finset (Fin 3)).fold IntOp.addi 0#32 f = f 0 + f 1 + f 2 := fun f => by
    rw [show (Finset.univ : Finset (Fin 3)) = insert 0 (insert 1 {2}) from by decide, Finset.fold_insert (by decide), Finset.fold_insert (by decide),
      Finset.fold_singleton]
    show f 0 + (f 1 + (f 2 + 0#32)) = _
    rw [BitVec.add_zero, BitVec.add_assoc]
  refine (k (x ∘ hr.lift (ix1 t))).trans ?_
  exact congrArg₂ (· + ·) (congrArg₂ (· + ·) (e 0) (e 1)) (e 2)

/-- An entry taken at an index below three. -/
theorem wrap_gather {α : Type} (d : GatherDims (⟨1, ![3]⟩ : Shape) ⟨2, ![19, 1]⟩ ⟨1, ![19]⟩) (hcoll : d.collapsedSliceDims = [0])
    (hob : d.operandBatchingDims = []) (hsim : d.startIndexMap = [0]) (hivd : d.indexVectorDim = 1) (x : (⟨1, ![3]⟩ : Shape).Idx → α)
    (idx : IVec (⟨2, ![19, 1]⟩ : Shape) 32) (w : BitVec 32) (t : Fin 19)
    (hi : idx (ix2 t 0) = Scalar.select (IntOp.cmpi .slt w 0#32) (IntOp.addi w 3#32) w) (b : Fin 3) (hw : w = BitVec.ofNat 32 b.val) :
    Host.gather d x idx (ix1 t) = x (ix1 b) := by
  refine gather_take1 d hcoll hob hsim hivd x idx t b ?_ (by decide)
  rw [hi, hw]
  clear hw hi
  revert b; decide
end Cert.Visits
-- ==== Proof.Kernel.Tables.lean ====
/-
  What the host leaves in the tables that the call prefetches: every entry is a word of the table of visits (Visits.lean).
-/
module
public import proofs.«01_k».proof.Proof.Gen.Kernel.Launch
public import proofs.«01_k».proof.Proof.Reads
public import Idealize.ShloMosaic.Lib.Pipeline.Frame
public import Idealize.ShloMosaic.Lib.StableHlo.ReadAt
@[expose] public section
noncomputable section
namespace Cert.Kernel.Hand
open Cert.Kernel Cert.Kernel.Gen
open Idealize.ShloMosaic hiding ix1 ix2
open Idealize.ShloMosaic.TcCoe Idealize.ShloMosaic.ValueIdx
open Idealize.SL Idealize.SL.RA Idealize.SL.BI
open Idealize.SL.Sem
variable {F : FTy → Type} [FloatOps F]
variable (X : Valuation τ sig (Elt F))

/-! ## The contents after each stretch of host operations, and what a stretch leaves alone -/

def x0 : Valuation τ sig (Elt F) := X
def x1 : Valuation τ sig (Elt F) := StableHlo.after (hostOps0 (F := F)) (x0 X)
def x2 : Valuation τ sig (Elt F) := StableHlo.after (hostOps0_1 (F := F)) (x1 X)
def x3 : Valuation τ sig (Elt F) := StableHlo.after (hostOps0_2 (F := F)) (x2 X)
def x4 : Valuation τ sig (Elt F) := StableHlo.after (hostOps0_3 (F := F)) (x3 X)
def x5 : Valuation τ sig (Elt F) := StableHlo.after (hostOps0_4 (F := F)) (x4 X)
def x6 : Valuation τ sig (Elt F) := StableHlo.after (hostOps0_5 (F := F)) (x5 X)
def x7 : Valuation τ sig (Elt F) := StableHlo.after (hostOps0_6 (F := F)) (x6 X)
def x8 : Valuation τ sig (Elt F) := StableHlo.after (hostOps0_7 (F := F)) (x7 X)
def x9 : Valuation τ sig (Elt F) := StableHlo.after (hostOps0_8 (F := F)) (x8 X)
def x10 : Valuation τ sig (Elt F) := StableHlo.after (hostOps0_9 (F := F)) (x9 X)
def x11 : Valuation τ sig (Elt F) := StableHlo.after (hostOps0_10 (F := F)) (x10 X)
def x12 : Valuation τ sig (Elt F) := StableHlo.after (hostOps0_11 (F := F)) (x11 X)
def x13 : Valuation τ sig (Elt F) := StableHlo.after (hostOps0_12 (F := F)) (x12 X)
def x14 : Valuation τ sig (Elt F) := StableHlo.after (hostOps0_13 (F := F)) (x13 X)
def x15 : Valuation τ sig (Elt F) := StableHlo.after (hostOps0_14 (F := F)) (x14 X)
def x16 : Valuation τ sig (Elt F) := StableHlo.after (hostOps0_15 (F := F)) (x15 X)
def x17 : Valuation τ sig (Elt F) := StableHlo.after (hostOps0_16 (F := F)) (x16 X)
def x18 : Valuation τ sig (Elt F) := StableHlo.after (hostOps0_17 (F := F)) (x17 X)
theorem ps0 {r : Ref sig .tc} (hr : r ∉ ([main_c, main_v0] : List (Ref sig .tc))) : x1 X (Proc.devRef .tc r) = x0 X (Proc.devRef .tc r) :=
  StableHlo.after_unwritten (ops := hostOps0 (F := F)) [main_c, main_v0] rfl hr _
theorem ps1 {r : Ref sig .tc} (hr : r ∉ ([main_call0_call0_c, main_call0_call0_v0, main_v1] : List (Ref sig .tc))) : x2 X (Proc.devRef .tc r) = x1 X (Proc.devRef .tc r) :=
  StableHlo.after_unwritten (ops := hostOps0_1 (F := F)) [main_call0_call0_c, main_call0_call0_v0, main_v1] rfl hr _
theorem ps2 {r : Ref sig .tc} (hr : r ∉ ([main_v2, main_v3, main_v4, main_v5, main_v6, main_c_0] : List (Ref sig .tc))) : x3 X (Proc.devRef .tc r) = x2 X (Proc.devRef .tc r) :=
  StableHlo.after_unwritten (ops := hostOps0_2 (F := F)) [main_v2, main_v3, main_v4, main_v5, main_v6, main_c_0] rfl hr _
theorem ps3 {r : Ref sig .tc} (hr : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7] : List (Ref sig .tc))) : x4 X (Proc.devRef .tc r) = x3 X (Proc.devRef .tc r) :=
  StableHlo.after_unwritten (ops := hostOps0_3 (F := F)) [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7] rfl hr _
theorem ps4 {r : Ref sig .tc} (hr : r ∉ ([main_c_1, main_v8, main_v9, main_c_2, main_v10, main_v11, main_c_3, main_v12, main_v13, main_c_4] : List (Ref sig .tc))) : x5 X (Proc.devRef .tc r) = x4 X (Proc.devRef .tc r) :=
  StableHlo.after_unwritten (ops := hostOps0_4 (F := F)) [main_c_1, main_v8, main_v9, main_c_2, main_v10, main_v11, main_c_3, main_v12, main_v13, main_c_4] rfl hr _
theorem ps5 {r : Ref sig .tc} (hr : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v14] : List (Ref sig .tc))) : x6 X (Proc.devRef .tc r) = x5 X (Proc.devRef .tc r) :=
  StableHlo.after_unwritten (ops := hostOps0_5 (F := F)) [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v14] rfl hr _
theorem ps6 {r : Ref sig .tc} (hr : r ∉ ([main_v15] : List (Ref sig .tc))) : x7 X (Proc.devRef .tc r) = x6 X (Proc.devRef .tc r) :=
  StableHlo.after_unwritten (ops := hostOps0_6 (F := F)) [main_v15] rfl hr _
theorem ps7 {r : Ref sig .tc} (hr : r ∉ ([main_v16] : List (Ref sig .tc))) : x8 X (Proc.devRef .tc r) = x7 X (Proc.devRef .tc r) :=
  StableHlo.after_unwritten (ops := hostOps0_7 (F := F)) [main_v16] rfl hr _
theorem ps8 {r : Ref sig .tc} (hr : r ∉ ([main_call4_call0_c, main_call4_call0_v0, main_v17] : List (Ref sig .tc))) : x9 X (Proc.devRef .tc r) = x8 X (Proc.devRef .tc r) :=
  StableHlo.after_unwritten (ops := hostOps0_8 (F := F)) [main_call4_call0_c, main_call4_call0_v0, main_v17] rfl hr _
theorem ps9 {r : Ref sig .tc} (hr : r ∉ ([main_v18] : List (Ref sig .tc))) : x10 X (Proc.devRef .tc r) = x9 X (Proc.devRef .tc r) :=
  StableHlo.after_unwritten (ops := hostOps0_9 (F := F)) [main_v18] rfl hr _
theorem ps10 {r : Ref sig .tc} (hr : r ∉ ([main_call5_call0_v0, main_call5_call0_v1, main_call5_call0_v2, main_call5_call0_v3, main_call5_call0_v4, main_call5_call0_v5, main_call5_call0_c, main_v19] : List (Ref sig .tc))) : x11 X (Proc.devRef .tc r) = x10 X (Proc.devRef .tc r) :=
  StableHlo.after_unwritten (ops := hostOps0_10 (F := F)) [main_call5_call0_v0, main_call5_call0_v1, main_call5_call0_v2, main_call5_call0_v3, main_call5_call0_v4, main_call5_call0_v5, main_call5_call0_c, main_v19] rfl hr _
theorem ps11 {r : Ref sig .tc} (hr : r ∉ ([main_c_5, main_v20, main_v21, main_v22, main_v23, main_v24, main_v25, main_c_6, main_v26, main_v27, main_c_7, main_v28, main_v29, main_v30, main_v31, main_v32, main_c_8, main_v33, main_v34, main_c_9, main_v35, main_v36, main_v37, main_v38, main_v39, main_v40, main_v41, main_c_10, main_v42, main_v43, main_c_11, main_v44, main_v45, main_v46, main_v47, main_v48, main_v49, main_c_12, main_v50, main_v51, main_c_13, main_v52, main_v53, main_v54, main_v55, main_v56, main_c_14, main_v57, main_v58, main_c_15, main_v59, main_v60, main_v61, main_v62, main_v63, main_v64, main_c_16, main_v65, main_v66] : List (Ref sig .tc))) : x12 X (Proc.devRef .tc r) = x11 X (Proc.devRef .tc r) :=
  StableHlo.after_unwritten (ops := hostOps0_11 (F := F)) [main_c_5, main_v20, main_v21, main_v22, main_v23, main_v24, main_v25, main_c_6, main_v26, main_v27, main_c_7, main_v28, main_v29, main_v30, main_v31, main_v32, main_c_8, main_v33, main_v34, main_c_9, main_v35, main_v36, main_v37, main_v38, main_v39, main_v40, main_v41, main_c_10, main_v42, main_v43, main_c_11, main_v44, main_v45, main_v46, main_v47, main_v48, main_v49, main_c_12, main_v50, main_v51, main_c_13, main_v52, main_v53, main_v54, main_v55, main_v56, main_c_14, main_v57, main_v58, main_c_15, main_v59, main_v60, main_v61, main_v62, main_v63, main_v64, main_c_16, main_v65, main_v66] rfl hr _
theorem ps12 {r : Ref sig .tc} (hr : r ∉ ([main_v67] : List (Ref sig .tc))) : x13 X (Proc.devRef .tc r) = x12 X (Proc.devRef .tc r) :=
  StableHlo.after_unwritten (ops := hostOps0_12 (F := F)) [main_v67] rfl hr _
theorem ps13 {r : Ref sig .tc} (hr : r ∉ ([main_c_17, main_c_18] : List (Ref sig .tc))) : x14 X (Proc.devRef .tc r) = x13 X (Proc.devRef .tc r) :=
  StableHlo.after_unwritten (ops := hostOps0_13 (F := F)) [main_c_17, main_c_18] rfl hr _
theorem ps14 {r : Ref sig .tc} (hr : r ∉ ([main_call7_v0, main_call7_v1, main_call7_v2, main_call7_v3, main_call7_v4, main_v68] : List (Ref sig .tc))) : x15 X (Proc.devRef .tc r) = x14 X (Proc.devRef .tc r) :=
  StableHlo.after_unwritten (ops := hostOps0_14 (F := F)) [main_call7_v0, main_call7_v1, main_call7_v2, main_call7_v3, main_call7_v4, main_v68] rfl hr _
theorem ps15 {r : Ref sig .tc} (hr : r ∉ ([main_c_19, main_v69, main_v70, main_c_20, main_v71, main_v72, main_v73, main_v74, main_v75, main_c_21, main_v76, main_v77, main_v78, main_c_22, main_v79, main_v80, main_c_23, main_v81, main_v82, main_v83, main_v84, main_v85, main_c_24, main_v86, main_v87, main_c_25, main_v88, main_v89, main_v90, main_v91, main_c_26, main_v92, main_v93, main_v94, main_c_27, main_v95, main_v96, main_c_28, main_v97, main_v98, main_c_29, main_v99, main_v100, main_v101, main_v102, main_v103, main_c_30, main_v104, main_v105, main_v106, main_v107, main_c_31, main_v108, main_v109, main_v110, main_c_32, main_v111, main_v112, main_c_33, main_v113, main_v114, main_v115, main_v116, main_v117, main_v118, main_v119, main_c_34, main_v120, main_v121, main_v122, main_v123, main_c_35, main_v124, main_v125, main_v126, main_c_36] : List (Ref sig .tc))) : x16 X (Proc.devRef .tc r) = x15 X (Proc.devRef .tc r) :=
  StableHlo.after_unwritten (ops := hostOps0_15 (F := F)) [main_c_19, main_v69, main_v70, main_c_20, main_v71, main_v72, main_v73, main_v74, main_v75, main_c_21, main_v76, main_v77, main_v78, main_c_22, main_v79, main_v80, main_c_23, main_v81, main_v82, main_v83, main_v84, main_v85, main_c_24, main_v86, main_v87, main_c_25, main_v88, main_v89, main_v90, main_v91, main_c_26, main_v92, main_v93, main_v94, main_c_27, main_v95, main_v96, main_c_28, main_v97, main_v98, main_c_29, main_v99, main_v100, main_v101, main_v102, main_v103, main_c_30, main_v104, main_v105, main_v106, main_v107, main_c_31, main_v108, main_v109, main_v110, main_c_32, main_v111, main_v112, main_c_33, main_v113, main_v114, main_v115, main_v116, main_v117, main_v118, main_v119, main_c_34, main_v120, main_v121, main_v122, main_v123, main_c_35, main_v124, main_v125, main_v126, main_c_36] rfl hr _
theorem ps16 {r : Ref sig .tc} (hr : r ∉ ([main_call8_v0, main_v127] : List (Ref sig .tc))) : x17 X (Proc.devRef .tc r) = x16 X (Proc.devRef .tc r) :=
  StableHlo.after_unwritten (ops := hostOps0_16 (F := F)) [main_call8_v0, main_v127] rfl hr _
theorem ps17 {r : Ref sig .tc} (hr : r ∉ ([main_v128] : List (Ref sig .tc))) : x18 X (Proc.devRef .tc r) = x17 X (Proc.devRef .tc r) :=
  StableHlo.after_unwritten (ops := hostOps0_17 (F := F)) [main_v128] rfl hr _

/-! ## What each stretch leaves in the buffers it writes, at an entry, over a table of visits -/

section Stretches
variable (g : Fin 3 → BitVec 32)
theorem l0_v0 : StableHlo.after (hostOps0 (F := F)) X (Proc.devRef .tc main_v0) (ix1 0) = 0#32 := by
  after_reads_at

theorem l1_v1 (h : ∀ e : Fin 3, X (Proc.devRef .tc main_arg4) (ix1 e) = g e) (e : Fin 3) : StableHlo.after (hostOps0_1 (F := F)) X (Proc.devRef .tc main_v1) (ix1 e) = Cert.Visits.bnd g e.succ := by
  after_reads_at
  refine (Cert.Visits.cumsum3 _ _ rfl _ _ e).trans ?_
  fin_cases e
  · exact h 0
  · exact congrArg₂ (fun a b : BitVec 32 => a + b) (h 0) (h 1)
  · exact congrArg₂ (fun a b : BitVec 32 => a + b) (congrArg₂ (fun a b : BitVec 32 => a + b) (h 0) (h 1)) (h 2)

theorem bnd_split (n : ℕ) (p : n < 1 → BitVec 32) (q : ¬ n < 1 → BitVec 32) (j : Fin 4) (hn : n = j.val) (hp : ∀ h, p h = 0#32)
    (hq : ∀ h (k : Fin 3), n - 1 = k.val → q h = Cert.Visits.bnd g k.succ) : (if h : n < 1 then p h else q h) = Cert.Visits.bnd g j := by
  split <;> rename_i h
  · rw [hp h]; obtain rfl : j = 0 := Fin.ext (by show j.val = 0; omega)
    rfl
  · have := j.isLt
    rw [hq h ⟨n - 1, by omega⟩ rfl]; exact congrArg _ (Fin.ext (by show n - 1 + 1 = j.val; omega))

theorem l2_v2 (h0 : ∀ e : Fin 1, X (Proc.devRef .tc main_v0) (ix1 e) = 0#32) (h1 : ∀ e : Fin 3, X (Proc.devRef .tc main_v1) (ix1 e) = Cert.Visits.bnd g e.succ) (j : Fin 4) : StableHlo.after (hostOps0_2 (F := F)) X (Proc.devRef .tc main_v2) (ix1 j) = Cert.Visits.bnd g j := by
  after_reads_at
  refine bnd_split g _ _ _ j rfl (fun h => (congrArg (X (Proc.devRef .tc main_v0)) (funext fun a => ?_)).trans (h0 0))
    (fun h k hk => (congrArg (X (Proc.devRef .tc main_v1)) (funext fun a => ?_)).trans (h1 k))
  · match a with
    | ⟨0, _⟩ => exact Fin.ext (by have : (0 : Fin 1).val = 0 := rfl; show (j.val : ℕ) = 0; have h' : (j.val : ℕ) < 1 := h; omega)
  · match a with
    | ⟨0, _⟩ => exact Fin.ext hk

theorem l2_v4 (h0 : ∀ e : Fin 1, X (Proc.devRef .tc main_v0) (ix1 e) = 0#32) (h1 : ∀ e : Fin 3, X (Proc.devRef .tc main_v1) (ix1 e) = Cert.Visits.bnd g e.succ) (e : Fin 3) : StableHlo.after (hostOps0_2 (F := F)) X (Proc.devRef .tc main_v4) (ix1 e) = Cert.Visits.bnd g e.castSucc := by
  after_reads_at
  refine bnd_split g _ _ _ e.castSucc rfl (fun h => (congrArg (X (Proc.devRef .tc main_v0)) (funext fun a => ?_)).trans (h0 0))
    (fun h k hk => (congrArg (X (Proc.devRef .tc main_v1)) (funext fun a => ?_)).trans (h1 k))
  · match a with
    | ⟨0, _⟩ => exact Fin.ext (by have : (0 : Fin 1).val = 0 := rfl; show (e.val : ℕ) = 0; have h' : (e.val : ℕ) < 1 := h; omega)
  · match a with
    | ⟨0, _⟩ => exact Fin.ext hk

theorem l2_v5 (h0 : ∀ e : Fin 1, X (Proc.devRef .tc main_v0) (ix1 e) = 0#32) (h1 : ∀ e : Fin 3, X (Proc.devRef .tc main_v1) (ix1 e) = Cert.Visits.bnd g e.succ) (e : Fin 3) : StableHlo.after (hostOps0_2 (F := F)) X (Proc.devRef .tc main_v5) (ix1 e) = Cert.Visits.bnd g e.succ := by
  after_reads_at
  exact h1 e

theorem l2_v6 (h0 : ∀ e : Fin 1, X (Proc.devRef .tc main_v0) (ix1 e) = 0#32) (h1 : ∀ e : Fin 3, X (Proc.devRef .tc main_v1) (ix1 e) = Cert.Visits.bnd g e.succ) (e : Fin 3) : StableHlo.after (hostOps0_2 (F := F)) X (Proc.devRef .tc main_v6) (ix1 e) = Cert.Visits.none g e := by
  after_reads_at
  refine congrArg₂ (IntOp.cmpi .sle) (h1 e) (bnd_split g _ _ _ e.castSucc rfl (fun h => (congrArg (X (Proc.devRef .tc main_v0)) (funext fun a => ?_)).trans (h0 0))
    (fun h k hk => (congrArg (X (Proc.devRef .tc main_v1)) (funext fun a => ?_)).trans (h1 k)))
  · match a with
    | ⟨0, _⟩ => exact Fin.ext (by have : (0 : Fin 1).val = 0 := rfl; show (e.val : ℕ) = 0; have h' : (e.val : ℕ) < 1 := h; omega)
  · match a with
    | ⟨0, _⟩ => exact Fin.ext hk

theorem l2_c_0 : StableHlo.after (hostOps0_2 (F := F)) X (Proc.devRef .tc main_c_0) (Idealize.ShloMosaic.ix0) = 1024#32 := by
  after_reads_at

theorem l3_v7 (a : Fin 3 → BitVec 32) (e : Fin 3) (h : X (Proc.devRef .tc main_v4) (ix1 e) = a e) (hc : X (Proc.devRef .tc main_c_0) Idealize.ShloMosaic.ix0 = 1024#32) : StableHlo.after (hostOps0_3 (F := F)) X (Proc.devRef .tc main_v7) (ix1 e) = Cert.Visits.fdiv (a e) := by
  after_reads_at
  simp only [id, h, hc]
  rfl

theorem l5_v14 (a : Fin 3 → BitVec 32) (e : Fin 3) (h : X (Proc.devRef .tc main_v13) (ix1 e) = a e) (hc : X (Proc.devRef .tc main_c_4) Idealize.ShloMosaic.ix0 = 1024#32) : StableHlo.after (hostOps0_5 (F := F)) X (Proc.devRef .tc main_v14) (ix1 e) = Cert.Visits.fdiv (a e) := by
  after_reads_at
  simp only [id, h, hc]
  rfl

theorem l4_v9 (a : Fin 3 → BitVec 32) (e : Fin 3) (h : X (Proc.devRef .tc main_v7) (ix1 e) = a e) : StableHlo.after (hostOps0_4 (F := F)) X (Proc.devRef .tc main_v9) (ix1 e) = IntOp.addi (a e) 1#32 := by
  after_reads_at
  exact congrArg (fun x => IntOp.addi x 1#32) h

theorem l4_v13 (a : Fin 3 → BitVec 32) (e : Fin 3) (h : X (Proc.devRef .tc main_v5) (ix1 e) = a e) : StableHlo.after (hostOps0_4 (F := F)) X (Proc.devRef .tc main_v13) (ix1 e) = IntOp.subi (IntOp.addi (a e) 1024#32) 1#32 := by
  after_reads_at
  exact congrArg (fun x => IntOp.subi (IntOp.addi x 1024#32) 1#32) h

theorem l4_c_4 : StableHlo.after (hostOps0_4 (F := F)) X (Proc.devRef .tc main_c_4) (Idealize.ShloMosaic.ix0) = 1024#32 := by
  after_reads_at

theorem l6_v15 (e : Fin 3) (a b c) (h6 : X (Proc.devRef .tc main_v6) (ix1 e) = a) (h9 : X (Proc.devRef .tc main_v9) (ix1 e) = b) (h14 : X (Proc.devRef .tc main_v14) (ix1 e) = c) : StableHlo.after (hostOps0_6 (F := F)) X (Proc.devRef .tc main_v15) (ix1 e) = Scalar.select a b c := by
  after_reads_at
  rw [h6, h9, h14]

theorem l7_v16 (e : Fin 3) (a b) (h6 : X (Proc.devRef .tc main_v15) (ix1 e) = a) (h9 : X (Proc.devRef .tc main_v7) (ix1 e) = b) : StableHlo.after (hostOps0_7 (F := F)) X (Proc.devRef .tc main_v16) (ix1 e) = IntOp.subi a b := by
  after_reads_at
  rw [h6, h9]

theorem l8_v17 (h : ∀ e : Fin 3, X (Proc.devRef .tc main_v16) (ix1 e) = Cert.Visits.cnt g e) (e : Fin 3) : StableHlo.after (hostOps0_8 (F := F)) X (Proc.devRef .tc main_v17) (ix1 e) = Cert.Visits.cum g e := by
  after_reads_at
  refine (Cert.Visits.cumsum3 _ _ rfl _ _ e).trans ?_
  fin_cases e
  · exact h 0
  · exact congrArg₂ (fun a b : BitVec 32 => a + b) (h 0) (h 1)
  · exact congrArg₂ (fun a b : BitVec 32 => a + b) (congrArg₂ (fun a b : BitVec 32 => a + b) (h 0) (h 1)) (h 2)

theorem l9_v18 (t : Fin 19) : StableHlo.after (hostOps0_9 (F := F)) X (Proc.devRef .tc main_v18) (ix1 t) = BitVec.ofNat 32 t.val := by
  after_reads_at

theorem l10_v19 (h : ∀ e : Fin 3, X (Proc.devRef .tc main_v17) (ix1 e) = Cert.Visits.cum g e) (t : Fin 19) (ht : X (Proc.devRef .tc main_v18) (ix1 t) = BitVec.ofNat 32 t.val) : StableHlo.after (hostOps0_10 (F := F)) X (Proc.devRef .tc main_v19) (ix1 t) = Cert.Visits.hit g 0 t + Cert.Visits.hit g 1 t + Cert.Visits.hit g 2 t := by
  after_reads_at
  refine (Cert.Visits.reduce3 _ _ rfl _ _ t).trans ?_
  have k : ∀ e : Fin 3, (extui 32 (cmpi .sle (broadcastInDim S3x19 ![0, 1] bcast_S3x1_S3x19_0_1 (broadcastInDim S3x1 ![0] bcast_S3_S3x1_0 (X (Proc.devRef .tc main_v17))))
      (broadcastInDim S3x19 ![0, 1] bcast_S1x19_S3x19_0_1 (broadcastInDim S1x19 ![1] bcast_S19_S1x19_1 (X (Proc.devRef .tc main_v18))))) natLt_1_32 : IVec S3x19 32) (ix2 e t)
        = Cert.Visits.hit g e t := fun e => by
    refine congrArg₂ (fun a b : BitVec 32 => (IntOp.cmpi .sle a b).setWidth 32) ((congrArg (X (Proc.devRef .tc main_v17)) (funext fun a => ?_)).trans (h e))
      ((congrArg (X (Proc.devRef .tc main_v18)) (funext fun a => ?_)).trans ht)
    · match a with
      | ⟨0, _⟩ => rfl
    · match a with
      | ⟨0, _⟩ => rfl
  exact congrArg₂ (fun a b : BitVec 32 => a + b) (congrArg₂ (fun a b : BitVec 32 => a + b) (k 0) (k 1)) (k 2)

/-- An entry of a three-entry table taken at a visit's expert. -/
theorem gth {α : Type} (x : S3.Idx → α) (w : IVec S19 32) (t : Fin 19) (b : Fin 3) (hw : w (ix1 t) = BitVec.ofNat 32 b.val) :
    Host.gather gather_S3_S19x1_S19_n_0_n_n_0_1_1 x (broadcastInDim S19x1 ![0] bcast_S19_S19x1_0 (select (cmpi .slt w (broadcastInDim S19 ![] bcast_S_S19 (constantI S_ 32 0#32)))
      (addi w (broadcastInDim S19 ![] bcast_S_S19 (constantI S_ 32 3#32))) w)) (ix1 t) = x (ix1 b) := by
  refine Cert.Visits.wrap_gather _ rfl rfl rfl rfl x _ (w (ix1 t)) t ?_ b hw
  show Scalar.select (IntOp.cmpi .slt (w _) 0#32) (IntOp.addi (w _) 3#32) (w _) = _
  rw [show (fun a : Fin S19.rank => (⟨_, _⟩ : Fin (S19.size a))) = ix1 t from funext fun a => by
    match a with
    | ⟨0, _⟩ => rfl]

theorem l11_v21 (t : Fin 19) (h19 : X (Proc.devRef .tc main_v19) (ix1 t) = Cert.Visits.hit g 0 t + Cert.Visits.hit g 1 t + Cert.Visits.hit g 2 t) : StableHlo.after (hostOps0_11 (F := F)) X (Proc.devRef .tc main_v21) (ix1 t) = Cert.Visits.vexp g t := by
  after_reads_at
  rw [h19]; rfl

theorem l11_v25 (t : Fin 19) (h18 : X (Proc.devRef .tc main_v18) (ix1 t) = BitVec.ofNat 32 t.val) (h17 : ∀ e : Fin 3, X (Proc.devRef .tc main_v17) (ix1 e) = Cert.Visits.cum g e) : StableHlo.after (hostOps0_11 (F := F)) X (Proc.devRef .tc main_v25) (ix1 t) = Cert.Visits.live g t := by
  after_reads_at
  exact congrArg₂ (IntOp.cmpi .slt) h18 (h17 2)

theorem l11_v41 (t : Fin 19) (h19 : X (Proc.devRef .tc main_v19) (ix1 t) = Cert.Visits.hit g 0 t + Cert.Visits.hit g 1 t + Cert.Visits.hit g 2 t) (h18 : X (Proc.devRef .tc main_v18) (ix1 t) = BitVec.ofNat 32 t.val) (h17 : ∀ e : Fin 3, X (Proc.devRef .tc main_v17) (ix1 e) = Cert.Visits.cum g e) (h16 : ∀ e : Fin 3, X (Proc.devRef .tc main_v16) (ix1 e) = Cert.Visits.cnt g e) : StableHlo.after (hostOps0_11 (F := F)) X (Proc.devRef .tc main_v41) (ix1 t) = Cert.Visits.kk g t := by
  after_reads_at
  have hw : (minsi (X (Proc.devRef .tc main_v19)) (broadcastInDim S19 ![] bcast_S_S19 (constantI S_ 32 2#32)) : IVec S19 32) (ix1 t) = BitVec.ofNat 32 (Cert.Visits.ve g t).val :=
    (congrArg (fun x => IntOp.minsi x 2#32) h19).trans (Cert.Visits.vexp_ofNat g t)
  rw [gth _ _ t _ hw, gth _ _ t _ hw, h18, h17, h16]; rfl

theorem l11_v49 (t : Fin 19) (h19 : X (Proc.devRef .tc main_v19) (ix1 t) = Cert.Visits.hit g 0 t + Cert.Visits.hit g 1 t + Cert.Visits.hit g 2 t) (h18 : X (Proc.devRef .tc main_v18) (ix1 t) = BitVec.ofNat 32 t.val) (h17 : ∀ e : Fin 3, X (Proc.devRef .tc main_v17) (ix1 e) = Cert.Visits.cum g e) (h16 : ∀ e : Fin 3, X (Proc.devRef .tc main_v16) (ix1 e) = Cert.Visits.cnt g e) (h7 : ∀ e : Fin 3, X (Proc.devRef .tc main_v7) (ix1 e) = Cert.Visits.b0 g e) : StableHlo.after (hostOps0_11 (F := F)) X (Proc.devRef .tc main_v49) (ix1 t) = IntOp.addi (Cert.Visits.b0 g (Cert.Visits.ve g t)) (Cert.Visits.kk g t) := by
  after_reads_at
  have hw : (minsi (X (Proc.devRef .tc main_v19)) (broadcastInDim S19 ![] bcast_S_S19 (constantI S_ 32 2#32)) : IVec S19 32) (ix1 t) = BitVec.ofNat 32 (Cert.Visits.ve g t).val :=
    (congrArg (fun x => IntOp.minsi x 2#32) h19).trans (Cert.Visits.vexp_ofNat g t)
  rw [gth _ _ t _ hw, gth _ _ t _ hw, gth _ _ t _ hw, h18, h17, h16, h7]; rfl

theorem l11_v66 (t : Fin 19) (h19 : X (Proc.devRef .tc main_v19) (ix1 t) = Cert.Visits.hit g 0 t + Cert.Visits.hit g 1 t + Cert.Visits.hit g 2 t) (h16 : ∀ e : Fin 3, X (Proc.devRef .tc main_v16) (ix1 e) = Cert.Visits.cnt g e) (h7 : ∀ e : Fin 3, X (Proc.devRef .tc main_v7) (ix1 e) = Cert.Visits.b0 g e) : StableHlo.after (hostOps0_11 (F := F)) X (Proc.devRef .tc main_v66) (ix1 t) = IntOp.subi (IntOp.addi (Cert.Visits.b0 g (Cert.Visits.ve g t)) (Cert.Visits.cnt g (Cert.Visits.ve g t))) 1#32 := by
  after_reads_at
  have hw : (minsi (X (Proc.devRef .tc main_v19)) (broadcastInDim S19 ![] bcast_S_S19 (constantI S_ 32 2#32)) : IVec S19 32) (ix1 t) = BitVec.ofNat 32 (Cert.Visits.ve g t).val :=
    (congrArg (fun x => IntOp.minsi x 2#32) h19).trans (Cert.Visits.vexp_ofNat g t)
  rw [gth _ _ t _ hw, gth _ _ t _ hw, h16, h7]

theorem l12_v67 (t : Fin 19) (a b c) (h6 : X (Proc.devRef .tc main_v25) (ix1 t) = a) (h9 : X (Proc.devRef .tc main_v49) (ix1 t) = b) (h14 : X (Proc.devRef .tc main_v66) (ix1 t) = c) : StableHlo.after (hostOps0_12 (F := F)) X (Proc.devRef .tc main_v67) (ix1 t) = Scalar.select a b c := by
  after_reads_at
  rw [h6, h9, h14]

theorem l13_c_17 : StableHlo.after (hostOps0_13 (F := F)) X (Proc.devRef .tc main_c_17) (Idealize.ShloMosaic.ix0) = 0#32 := by
  after_reads_at

theorem l13_c_18 : StableHlo.after (hostOps0_13 (F := F)) X (Proc.devRef .tc main_c_18) (Idealize.ShloMosaic.ix0) = 15#32 := by
  after_reads_at

theorem l14_v68 (t : Fin 19) (a) (h : X (Proc.devRef .tc main_v67) (ix1 t) = a) (h17 : X (Proc.devRef .tc main_c_17) Idealize.ShloMosaic.ix0 = 0#32) (h18 : X (Proc.devRef .tc main_c_18) Idealize.ShloMosaic.ix0 = 15#32) : StableHlo.after (hostOps0_14 (F := F)) X (Proc.devRef .tc main_v68) (ix1 t) = IntOp.minsi 15#32 (IntOp.maxsi 0#32 a) := by
  after_reads_at
  simp only [id, h, h17, h18]

theorem l15_v126 (t : Fin 19) (h21 : X (Proc.devRef .tc main_v21) (ix1 t) = Cert.Visits.vexp g t) (h41 : X (Proc.devRef .tc main_v41) (ix1 t) = Cert.Visits.kk g t) (h68 : X (Proc.devRef .tc main_v68) (ix1 t) = Cert.Visits.vblk g t) (h16 : ∀ e : Fin 3, X (Proc.devRef .tc main_v16) (ix1 e) = Cert.Visits.cnt g e) (h6 : ∀ e : Fin 3, X (Proc.devRef .tc main_v6) (ix1 e) = Cert.Visits.none g e) (h4 : ∀ e : Fin 3, X (Proc.devRef .tc main_v4) (ix1 e) = Cert.Visits.bnd g e.castSucc) (h5 : ∀ e : Fin 3, X (Proc.devRef .tc main_v5) (ix1 e) = Cert.Visits.bnd g e.succ) : StableHlo.after (hostOps0_15 (F := F)) X (Proc.devRef .tc main_v126) (ix1 t) = Cert.Visits.kraw g t := by
  after_reads_at
  have hw := h21.trans (Cert.Visits.vexp_ofNat g t)
  rw [gth _ _ t _ hw, gth _ _ t _ hw, gth _ _ t _ hw, gth _ _ t _ hw, h41, h68, h16, h6, h4, h5]; rfl

theorem l15_c_36 : StableHlo.after (hostOps0_15 (F := F)) X (Proc.devRef .tc main_c_36) (Idealize.ShloMosaic.ix0) = 0#32 := by
  after_reads_at

theorem l16_v127 (t : Fin 19) (a b) (h6 : X (Proc.devRef .tc main_v25) (ix1 t) = a) (h9 : X (Proc.devRef .tc main_v126) (ix1 t) = b) (h14 : X (Proc.devRef .tc main_c_36) Idealize.ShloMosaic.ix0 = 0#32) : StableHlo.after (hostOps0_16 (F := F)) X (Proc.devRef .tc main_v127) (ix1 t) = Scalar.select a b 0#32 := by
  after_reads_at
  simp only [id, h6, h9, h14]

theorem l17_v128 (t : Fin 19) (a) (h : X (Proc.devRef .tc main_v127) (ix1 t) = a) : StableHlo.after (hostOps0_17 (F := F)) X (Proc.devRef .tc main_v128) (ix1 t) = a := by
  after_reads_at
  exact h

end Stretches

/-! ## The tables -/

/-- The three group sizes as words. -/
def sizes (e : Fin 3) : BitVec 32 := X (Proc.devRef .tc main_arg4) (ix1 e)

theorem t_v0 : x1 X (Proc.devRef .tc main_v0) (ix1 0) = 0#32 := by
  show StableHlo.after _ _ _ _ = _
  exact l0_v0 (x0 X)

theorem t_v1 (e : Fin 3) : x2 X (Proc.devRef .tc main_v1) (ix1 e) = Cert.Visits.bnd (sizes X) e.succ := by
  show StableHlo.after _ _ _ _ = _
  exact l1_v1 (x1 X) _ (fun e => by rw [ps0 X (r := main_arg4) (by decide)]; rfl) e

theorem t_v2 (j : Fin 4) : x3 X (Proc.devRef .tc main_v2) (ix1 j) = Cert.Visits.bnd (sizes X) j := by
  show StableHlo.after _ _ _ _ = _
  exact l2_v2 (x2 X) _ (fun e => by obtain rfl : e = 0 := Subsingleton.elim _ _; rw [ps1 X (r := main_v0) (by decide)]; exact t_v0 X) (t_v1 X) j

theorem t_v4 (e : Fin 3) : x3 X (Proc.devRef .tc main_v4) (ix1 e) = Cert.Visits.bnd (sizes X) e.castSucc := by
  show StableHlo.after _ _ _ _ = _
  exact l2_v4 (x2 X) _ (fun e => by obtain rfl : e = 0 := Subsingleton.elim _ _; rw [ps1 X (r := main_v0) (by decide)]; exact t_v0 X) (t_v1 X) e

theorem t_v5 (e : Fin 3) : x3 X (Proc.devRef .tc main_v5) (ix1 e) = Cert.Visits.bnd (sizes X) e.succ := by
  show StableHlo.after _ _ _ _ = _
  exact l2_v5 (x2 X) _ (fun e => by obtain rfl : e = 0 := Subsingleton.elim _ _; rw [ps1 X (r := main_v0) (by decide)]; exact t_v0 X) (t_v1 X) e

theorem t_v6 (e : Fin 3) : x3 X (Proc.devRef .tc main_v6) (ix1 e) = Cert.Visits.none (sizes X) e := by
  show StableHlo.after _ _ _ _ = _
  exact l2_v6 (x2 X) _ (fun e => by obtain rfl : e = 0 := Subsingleton.elim _ _; rw [ps1 X (r := main_v0) (by decide)]; exact t_v0 X) (t_v1 X) e

theorem t_c_0 : x3 X (Proc.devRef .tc main_c_0) (Idealize.ShloMosaic.ix0) = 1024#32 := by
  show StableHlo.after _ _ _ _ = _
  exact l2_c_0 (x2 X)

theorem t_v7 (e : Fin 3) : x4 X (Proc.devRef .tc main_v7) (ix1 e) = Cert.Visits.b0 (sizes X) e := by
  show StableHlo.after _ _ _ _ = _
  exact l3_v7 (x3 X) (fun e => Cert.Visits.bnd (sizes X) e.castSucc) e (t_v4 X e) (t_c_0 X)

theorem t_v9 (e : Fin 3) : x5 X (Proc.devRef .tc main_v9) (ix1 e) = IntOp.addi (Cert.Visits.b0 (sizes X) e) 1#32 := by
  show StableHlo.after _ _ _ _ = _
  exact l4_v9 (x4 X) (fun e => Cert.Visits.b0 (sizes X) e) e (t_v7 X e)

theorem t_v13 (e : Fin 3) : x5 X (Proc.devRef .tc main_v13) (ix1 e) = IntOp.subi (IntOp.addi (Cert.Visits.bnd (sizes X) e.succ) 1024#32) 1#32 := by
  show StableHlo.after _ _ _ _ = _
  exact l4_v13 (x4 X) (fun e => Cert.Visits.bnd (sizes X) e.succ) e (by rw [ps3 X (r := main_v5) (by decide)]; exact t_v5 X e)

theorem t_c_4 : x5 X (Proc.devRef .tc main_c_4) (Idealize.ShloMosaic.ix0) = 1024#32 := by
  show StableHlo.after _ _ _ _ = _
  exact l4_c_4 (x4 X)

theorem t_v14 (e : Fin 3) : x6 X (Proc.devRef .tc main_v14) (ix1 e) = Cert.Visits.fdiv (IntOp.subi (IntOp.addi (Cert.Visits.bnd (sizes X) e.succ) 1024#32) 1#32) := by
  show StableHlo.after _ _ _ _ = _
  exact l5_v14 (x5 X) (fun e => IntOp.subi (IntOp.addi (Cert.Visits.bnd (sizes X) e.succ) 1024#32) 1#32) e (t_v13 X e) (t_c_4 X)

theorem t_v15 (e : Fin 3) : x7 X (Proc.devRef .tc main_v15) (ix1 e) = Cert.Visits.b1 (sizes X) e := by
  show StableHlo.after _ _ _ _ = _
  exact l6_v15 (x6 X) e _ _ _ (by rw [ps5 X (r := main_v6) (by decide), ps4 X (r := main_v6) (by decide), ps3 X (r := main_v6) (by decide)]; exact t_v6 X e) (by rw [ps5 X (r := main_v9) (by decide)]; exact t_v9 X e) (t_v14 X e)

theorem t_v16 (e : Fin 3) : x8 X (Proc.devRef .tc main_v16) (ix1 e) = Cert.Visits.cnt (sizes X) e := by
  show StableHlo.after _ _ _ _ = _
  exact l7_v16 (x7 X) e _ _ (t_v15 X e) (by rw [ps6 X (r := main_v7) (by decide), ps5 X (r := main_v7) (by decide), ps4 X (r := main_v7) (by decide)]; exact t_v7 X e)

theorem t_v17 (e : Fin 3) : x9 X (Proc.devRef .tc main_v17) (ix1 e) = Cert.Visits.cum (sizes X) e := by
  show StableHlo.after _ _ _ _ = _
  exact l8_v17 (x8 X) _ (t_v16 X) e

theorem t_v18 (t : Fin 19) : x10 X (Proc.devRef .tc main_v18) (ix1 t) = BitVec.ofNat 32 t.val := by
  show StableHlo.after _ _ _ _ = _
  exact l9_v18 (x9 X) t

theorem t_v19 (t : Fin 19) : x11 X (Proc.devRef .tc main_v19) (ix1 t) = Cert.Visits.hit (sizes X) 0 t + Cert.Visits.hit (sizes X) 1 t + Cert.Visits.hit (sizes X) 2 t := by
  show StableHlo.after _ _ _ _ = _
  exact l10_v19 (x10 X) _ (fun e => (by rw [ps9 X (r := main_v17) (by decide)]; exact t_v17 X e)) t (t_v18 X t)

theorem t_v21 (t : Fin 19) : x12 X (Proc.devRef .tc main_v21) (ix1 t) = Cert.Visits.vexp (sizes X) t := by
  show StableHlo.after _ _ _ _ = _
  exact l11_v21 (x11 X) _ t (t_v19 X t)

theorem t_v25 (t : Fin 19) : x12 X (Proc.devRef .tc main_v25) (ix1 t) = Cert.Visits.live (sizes X) t := by
  show StableHlo.after _ _ _ _ = _
  exact l11_v25 (x11 X) _ t (by rw [ps10 X (r := main_v18) (by decide)]; exact t_v18 X t) (fun e => (by rw [ps10 X (r := main_v17) (by decide), ps9 X (r := main_v17) (by decide)]; exact t_v17 X e))

theorem t_v41 (t : Fin 19) : x12 X (Proc.devRef .tc main_v41) (ix1 t) = Cert.Visits.kk (sizes X) t := by
  show StableHlo.after _ _ _ _ = _
  exact l11_v41 (x11 X) _ t (t_v19 X t) (by rw [ps10 X (r := main_v18) (by decide)]; exact t_v18 X t) (fun e => (by rw [ps10 X (r := main_v17) (by decide), ps9 X (r := main_v17) (by decide)]; exact t_v17 X e)) (fun e => (by rw [ps10 X (r := main_v16) (by decide), ps9 X (r := main_v16) (by decide), ps8 X (r := main_v16) (by decide)]; exact t_v16 X e))

theorem t_v49 (t : Fin 19) : x12 X (Proc.devRef .tc main_v49) (ix1 t) = IntOp.addi (Cert.Visits.b0 (sizes X) (Cert.Visits.ve (sizes X) t)) (Cert.Visits.kk (sizes X) t) := by
  show StableHlo.after _ _ _ _ = _
  exact l11_v49 (x11 X) _ t (t_v19 X t) (by rw [ps10 X (r := main_v18) (by decide)]; exact t_v18 X t) (fun e => (by rw [ps10 X (r := main_v17) (by decide), ps9 X (r := main_v17) (by decide)]; exact t_v17 X e)) (fun e => (by rw [ps10 X (r := main_v16) (by decide), ps9 X (r := main_v16) (by decide), ps8 X (r := main_v16) (by decide)]; exact t_v16 X e)) (fun e => (by rw [ps10 X (r := main_v7) (by decide), ps9 X (r := main_v7) (by decide), ps8 X (r := main_v7) (by decide), ps7 X (r := main_v7) (by decide), ps6 X (r := main_v7) (by decide), ps5 X (r := main_v7) (by decide), ps4 X (r := main_v7) (by decide)]; exact t_v7 X e))

theorem t_v66 (t : Fin 19) : x12 X (Proc.devRef .tc main_v66) (ix1 t) = IntOp.subi (IntOp.addi (Cert.Visits.b0 (sizes X) (Cert.Visits.ve (sizes X) t)) (Cert.Visits.cnt (sizes X) (Cert.Visits.ve (sizes X) t))) 1#32 := by
  show StableHlo.after _ _ _ _ = _
  exact l11_v66 (x11 X) _ t (t_v19 X t) (fun e => (by rw [ps10 X (r := main_v16) (by decide), ps9 X (r := main_v16) (by decide), ps8 X (r := main_v16) (by decide)]; exact t_v16 X e)) (fun e => (by rw [ps10 X (r := main_v7) (by decide), ps9 X (r := main_v7) (by decide), ps8 X (r := main_v7) (by decide), ps7 X (r := main_v7) (by decide), ps6 X (r := main_v7) (by decide), ps5 X (r := main_v7) (by decide), ps4 X (r := main_v7) (by decide)]; exact t_v7 X e))

theorem t_v67 (t : Fin 19) : x13 X (Proc.devRef .tc main_v67) (ix1 t) = Cert.Visits.vraw (sizes X) t := by
  show StableHlo.after _ _ _ _ = _
  exact l12_v67 (x12 X) t _ _ _ (t_v25 X t) (t_v49 X t) (t_v66 X t)

theorem t_c_17 : x14 X (Proc.devRef .tc main_c_17) (Idealize.ShloMosaic.ix0) = 0#32 := by
  show StableHlo.after _ _ _ _ = _
  exact l13_c_17 (x13 X)

theorem t_c_18 : x14 X (Proc.devRef .tc main_c_18) (Idealize.ShloMosaic.ix0) = 15#32 := by
  show StableHlo.after _ _ _ _ = _
  exact l13_c_18 (x13 X)

theorem t_v68 (t : Fin 19) : x15 X (Proc.devRef .tc main_v68) (ix1 t) = Cert.Visits.vblk (sizes X) t := by
  show StableHlo.after _ _ _ _ = _
  exact l14_v68 (x14 X) t _ (by rw [ps13 X (r := main_v67) (by decide)]; exact t_v67 X t) (t_c_17 X) (t_c_18 X)

theorem t_v126 (t : Fin 19) : x16 X (Proc.devRef .tc main_v126) (ix1 t) = Cert.Visits.kraw (sizes X) t := by
  show StableHlo.after _ _ _ _ = _
  exact l15_v126 (x15 X) _ t (by rw [ps14 X (r := main_v21) (by decide), ps13 X (r := main_v21) (by decide), ps12 X (r := main_v21) (by decide)]; exact t_v21 X t) (by rw [ps14 X (r := main_v41) (by decide), ps13 X (r := main_v41) (by decide), ps12 X (r := main_v41) (by decide)]; exact t_v41 X t) (t_v68 X t) (fun e => (by rw [ps14 X (r := main_v16) (by decide), ps13 X (r := main_v16) (by decide), ps12 X (r := main_v16) (by decide), ps11 X (r := main_v16) (by decide), ps10 X (r := main_v16) (by decide), ps9 X (r := main_v16) (by decide), ps8 X (r := main_v16) (by decide)]; exact t_v16 X e)) (fun e => (by rw [ps14 X (r := main_v6) (by decide), ps13 X (r := main_v6) (by decide), ps12 X (r := main_v6) (by decide), ps11 X (r := main_v6) (by decide), ps10 X (r := main_v6) (by decide), ps9 X (r := main_v6) (by decide), ps8 X (r := main_v6) (by decide), ps7 X (r := main_v6) (by decide), ps6 X (r := main_v6) (by decide), ps5 X (r := main_v6) (by decide), ps4 X (r := main_v6) (by decide), ps3 X (r := main_v6) (by decide)]; exact t_v6 X e)) (fun e => (by rw [ps14 X (r := main_v4) (by decide), ps13 X (r := main_v4) (by decide), ps12 X (r := main_v4) (by decide), ps11 X (r := main_v4) (by decide), ps10 X (r := main_v4) (by decide), ps9 X (r := main_v4) (by decide), ps8 X (r := main_v4) (by decide), ps7 X (r := main_v4) (by decide), ps6 X (r := main_v4) (by decide), ps5 X (r := main_v4) (by decide), ps4 X (r := main_v4) (by decide), ps3 X (r := main_v4) (by decide)]; exact t_v4 X e)) (fun e => (by rw [ps14 X (r := main_v5) (by decide), ps13 X (r := main_v5) (by decide), ps12 X (r := main_v5) (by decide), ps11 X (r := main_v5) (by decide), ps10 X (r := main_v5) (by decide), ps9 X (r := main_v5) (by decide), ps8 X (r := main_v5) (by decide), ps7 X (r := main_v5) (by decide), ps6 X (r := main_v5) (by decide), ps5 X (r := main_v5) (by decide), ps4 X (r := main_v5) (by decide), ps3 X (r := main_v5) (by decide)]; exact t_v5 X e))

theorem t_c_36 : x16 X (Proc.devRef .tc main_c_36) (Idealize.ShloMosaic.ix0) = 0#32 := by
  show StableHlo.after _ _ _ _ = _
  exact l15_c_36 (x15 X)

theorem t_v127 (t : Fin 19) : x17 X (Proc.devRef .tc main_v127) (ix1 t) = Cert.Visits.vkind (sizes X) t := by
  show StableHlo.after _ _ _ _ = _
  exact l16_v127 (x16 X) t _ _ (by rw [ps15 X (r := main_v25) (by decide), ps14 X (r := main_v25) (by decide), ps13 X (r := main_v25) (by decide), ps12 X (r := main_v25) (by decide)]; exact t_v25 X t) (t_v126 X t) (t_c_36 X)

theorem t_v128 (t : Fin 19) : x18 X (Proc.devRef .tc main_v128) (ix1 t) = Cert.Visits.vkind (sizes X) t := by
  show StableHlo.after _ _ _ _ = _
  exact l17_v128 (x17 X) t _ (t_v127 X t)

/-- What the four prefetched tables hold, and that the host changes none of the arguments. -/
theorem tab_bnd (j : Fin 4) : x18 X (Proc.devRef .tc main_v2) (ix1 j) = Cert.Visits.bnd (sizes X) j := by
  rw [ps17 X (r := main_v2) (by decide), ps16 X (r := main_v2) (by decide), ps15 X (r := main_v2) (by decide), ps14 X (r := main_v2) (by decide), ps13 X (r := main_v2) (by decide), ps12 X (r := main_v2) (by decide), ps11 X (r := main_v2) (by decide), ps10 X (r := main_v2) (by decide), ps9 X (r := main_v2) (by decide), ps8 X (r := main_v2) (by decide), ps7 X (r := main_v2) (by decide), ps6 X (r := main_v2) (by decide), ps5 X (r := main_v2) (by decide), ps4 X (r := main_v2) (by decide), ps3 X (r := main_v2) (by decide)]; exact t_v2 X j
theorem tab_exp (t : Fin 19) : x18 X (Proc.devRef .tc main_v21) (ix1 t) = Cert.Visits.vexp (sizes X) t := by
  rw [ps17 X (r := main_v21) (by decide), ps16 X (r := main_v21) (by decide), ps15 X (r := main_v21) (by decide), ps14 X (r := main_v21) (by decide), ps13 X (r := main_v21) (by decide), ps12 X (r := main_v21) (by decide)]; exact t_v21 X t
theorem tab_blk (t : Fin 19) : x18 X (Proc.devRef .tc main_v68) (ix1 t) = Cert.Visits.vblk (sizes X) t := by
  rw [ps17 X (r := main_v68) (by decide), ps16 X (r := main_v68) (by decide), ps15 X (r := main_v68) (by decide)]; exact t_v68 X t
theorem tab_kind (t : Fin 19) : x18 X (Proc.devRef .tc main_v128) (ix1 t) = Cert.Visits.vkind (sizes X) t := t_v128 X t

theorem tab_scale : x18 X (Proc.devRef .tc main_v3) = (mulf (X (Proc.devRef .tc main_arg1)) (X (Proc.devRef .tc main_arg3)) : (⟨S3, .f32⟩ : BufTy).Contents (Elt F)) := by
  rw [ps17 X (r := main_v3) (by decide), ps16 X (r := main_v3) (by decide), ps15 X (r := main_v3) (by decide), ps14 X (r := main_v3) (by decide), ps13 X (r := main_v3) (by decide), ps12 X (r := main_v3) (by decide), ps11 X (r := main_v3) (by decide), ps10 X (r := main_v3) (by decide), ps9 X (r := main_v3) (by decide), ps8 X (r := main_v3) (by decide), ps7 X (r := main_v3) (by decide), ps6 X (r := main_v3) (by decide), ps5 X (r := main_v3) (by decide), ps4 X (r := main_v3) (by decide), ps3 X (r := main_v3) (by decide)]
  funext j
  show StableHlo.after (hostOps0_2 (F := F)) (x2 X) (Proc.devRef .tc main_v3) j = _
  after_reads_at
  rw [ps1 X (r := main_arg1) (by decide), ps0 X (r := main_arg1) (by decide), ps1 X (r := main_arg3) (by decide), ps0 X (r := main_arg3) (by decide)]
  rfl

theorem arg_0 : x18 X (Proc.devRef .tc main_arg0) = X (Proc.devRef .tc main_arg0) := by
  rw [ps17 X (r := main_arg0) (by decide), ps16 X (r := main_arg0) (by decide), ps15 X (r := main_arg0) (by decide), ps14 X (r := main_arg0) (by decide), ps13 X (r := main_arg0) (by decide), ps12 X (r := main_arg0) (by decide), ps11 X (r := main_arg0) (by decide), ps10 X (r := main_arg0) (by decide), ps9 X (r := main_arg0) (by decide), ps8 X (r := main_arg0) (by decide), ps7 X (r := main_arg0) (by decide), ps6 X (r := main_arg0) (by decide), ps5 X (r := main_arg0) (by decide), ps4 X (r := main_arg0) (by decide), ps3 X (r := main_arg0) (by decide), ps2 X (r := main_arg0) (by decide), ps1 X (r := main_arg0) (by decide), ps0 X (r := main_arg0) (by decide)]; rfl

theorem arg_1 : x18 X (Proc.devRef .tc main_arg1) = X (Proc.devRef .tc main_arg1) := by
  rw [ps17 X (r := main_arg1) (by decide), ps16 X (r := main_arg1) (by decide), ps15 X (r := main_arg1) (by decide), ps14 X (r := main_arg1) (by decide), ps13 X (r := main_arg1) (by decide), ps12 X (r := main_arg1) (by decide), ps11 X (r := main_arg1) (by decide), ps10 X (r := main_arg1) (by decide), ps9 X (r := main_arg1) (by decide), ps8 X (r := main_arg1) (by decide), ps7 X (r := main_arg1) (by decide), ps6 X (r := main_arg1) (by decide), ps5 X (r := main_arg1) (by decide), ps4 X (r := main_arg1) (by decide), ps3 X (r := main_arg1) (by decide), ps2 X (r := main_arg1) (by decide), ps1 X (r := main_arg1) (by decide), ps0 X (r := main_arg1) (by decide)]; rfl

theorem arg_2 : x18 X (Proc.devRef .tc main_arg2) = X (Proc.devRef .tc main_arg2) := by
  rw [ps17 X (r := main_arg2) (by decide), ps16 X (r := main_arg2) (by decide), ps15 X (r := main_arg2) (by decide), ps14 X (r := main_arg2) (by decide), ps13 X (r := main_arg2) (by decide), ps12 X (r := main_arg2) (by decide), ps11 X (r := main_arg2) (by decide), ps10 X (r := main_arg2) (by decide), ps9 X (r := main_arg2) (by decide), ps8 X (r := main_arg2) (by decide), ps7 X (r := main_arg2) (by decide), ps6 X (r := main_arg2) (by decide), ps5 X (r := main_arg2) (by decide), ps4 X (r := main_arg2) (by decide), ps3 X (r := main_arg2) (by decide), ps2 X (r := main_arg2) (by decide), ps1 X (r := main_arg2) (by decide), ps0 X (r := main_arg2) (by decide)]; rfl

theorem arg_3 : x18 X (Proc.devRef .tc main_arg3) = X (Proc.devRef .tc main_arg3) := by
  rw [ps17 X (r := main_arg3) (by decide), ps16 X (r := main_arg3) (by decide), ps15 X (r := main_arg3) (by decide), ps14 X (r := main_arg3) (by decide), ps13 X (r := main_arg3) (by decide), ps12 X (r := main_arg3) (by decide), ps11 X (r := main_arg3) (by decide), ps10 X (r := main_arg3) (by decide), ps9 X (r := main_arg3) (by decide), ps8 X (r := main_arg3) (by decide), ps7 X (r := main_arg3) (by decide), ps6 X (r := main_arg3) (by decide), ps5 X (r := main_arg3) (by decide), ps4 X (r := main_arg3) (by decide), ps3 X (r := main_arg3) (by decide), ps2 X (r := main_arg3) (by decide), ps1 X (r := main_arg3) (by decide), ps0 X (r := main_arg3) (by decide)]; rfl

theorem arg_4 : x18 X (Proc.devRef .tc main_arg4) = X (Proc.devRef .tc main_arg4) := by
  rw [ps17 X (r := main_arg4) (by decide), ps16 X (r := main_arg4) (by decide), ps15 X (r := main_arg4) (by decide), ps14 X (r := main_arg4) (by decide), ps13 X (r := main_arg4) (by decide), ps12 X (r := main_arg4) (by decide), ps11 X (r := main_arg4) (by decide), ps10 X (r := main_arg4) (by decide), ps9 X (r := main_arg4) (by decide), ps8 X (r := main_arg4) (by decide), ps7 X (r := main_arg4) (by decide), ps6 X (r := main_arg4) (by decide), ps5 X (r := main_arg4) (by decide), ps4 X (r := main_arg4) (by decide), ps3 X (r := main_arg4) (by decide), ps2 X (r := main_arg4) (by decide), ps1 X (r := main_arg4) (by decide), ps0 X (r := main_arg4) (by decide)]; rfl

end Cert.Kernel.Hand
-- ==== Proof.Kernel.Run.lean ====
/-
  The run of the program: the tables the host leaves are ones the call can run at; at every visit the body turns what it found in the output block into
  what the four steps leave (Body.lean); the launch, and what is known after it.
-/
module
public import proofs.«01_k».proof.Proof.Kernel.Body
public import proofs.«01_k».proof.Proof.Kernel.Tables
public import Idealize.ShloMosaic.Lib.Pipeline.FrameBody
public import Idealize.ShloMosaic.Lib.Affine
@[expose] public section
noncomputable section
namespace Cert.Kernel.Hand
open Cert.Kernel Cert.Kernel.Gen
open Idealize.ShloMosaic hiding ix1 ix2
open Idealize.ShloMosaic.TcCoe Idealize.ShloMosaic.ValueIdx Idealize.ShloMosaic.Pipeline
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What the host operations leave on a core. -/
def V (c : Dev nD) (b : Ref sig .tc) : Buf (Elt F) ((c.tc : Thread nD τ).loc b) := x18 (fun b => m (c, b)) (Proc.devRef .tc b)
/-- The tables as the call finds them. -/
def tabs : pre0.Contents (Elt F) := fun k => V m 0 (pre0.ref k)

/-- The bounds, the experts, the row blocks and the kinds, as the call finds them. -/
def T0 : S4.Idx → Elt F .i32 := tabs m 0
def T1 : S19.Idx → Elt F .i32 := tabs m 1
def T2 : S19.Idx → Elt F .i32 := tabs m 2
def T3 : S19.Idx → Elt F .i32 := tabs m 3
/-- The group sizes. -/
abbrev sz : Fin 3 → BitVec 32 := sizes (fun b => m (0, b))

/-! ## The tables are ones the call can run at -/

/-- A visit's number is its third grid coordinate. -/
theorem wd_eq (f : S19.Idx → Elt F .i32) (i : grid0.Coords) : wd f i = f (ix1 (i 2)) := by
  refine congrArg f (funext fun a => Fin.ext ?_)
  match a with
  | ⟨0, _⟩ =>
    have h := (i 2).isLt
    have h' : (i 2).val < 19 := h
    show (BitVec.ofNat 32 (i 2).val).toNat = (i 2).val
    rw [BitVec.toNat_ofNat]; omega
theorem tabs_exp (t : Fin 19) : T1 m (ix1 t) = Cert.Visits.vexp (sz m) t := tab_exp (fun b => m (0, b)) t
theorem tabs_blk (t : Fin 19) : T2 m (ix1 t) = Cert.Visits.vblk (sz m) t := tab_blk (fun b => m (0, b)) t
theorem tabs_kind (t : Fin 19) : T3 m (ix1 t) = Cert.Visits.vkind (sz m) t := tab_kind (fun b => m (0, b)) t
theorem tabs_bnd (t : Fin 4) : T0 m (ix1 t) = Cert.Visits.bnd (sz m) t := tab_bnd (fun b => m (0, b)) t
theorem wd_exp_lt (i : grid0.Coords) : (wd (T1 m) i).toNat < 3 := by
  rw [wd_eq]; erw [tabs_exp]; exact Cert.Visits.vexp_lt _ _
theorem wd_blk_lt (i : grid0.Coords) : (wd (T2 m) i).toNat < 16 := by
  rw [wd_eq]; erw [tabs_blk]; exact Cert.Visits.vblk_lt _ _

theorem tr1 (pf : pre0.Contents (Elt F)) (i : grid0.Coords) : cc0_transform_1 k0_off1_inb numel1_S1 pf i = ![(wd (pf 2) i).toNat, (i 0).val] := by
  have h : (i 0).val < 2 := (i 0).isLt
  unfold cc0_transform_1
  funext a
  match a with
  | ⟨0, _⟩ => exact congrArg BitVec.toNat (congrArg (pf 2) (funext fun a => Fin.ext (Nat.add_zero _)))
  | ⟨1, _⟩ => show (BitVec.ofNat 32 (i 0).val).toNat = (i 0).val; rw [BitVec.toNat_ofNat]; omega
theorem tr2 (pf : pre0.Contents (Elt F)) (i : grid0.Coords) : cc0_transform_2 k0_off1_inb numel1_S1 pf i = ![(wd (pf 2) i).toNat, (i 1).val] := by
  have h : (i 1).val < 4 := (i 1).isLt
  unfold cc0_transform_2
  funext a
  match a with
  | ⟨0, _⟩ => exact congrArg BitVec.toNat (congrArg (pf 2) (funext fun a => Fin.ext (Nat.add_zero _)))
  | ⟨1, _⟩ => show (BitVec.ofNat 32 (i 1).val).toNat = (i 1).val; rw [BitVec.toNat_ofNat]; omega
theorem tr3 (pf : pre0.Contents (Elt F)) (i : grid0.Coords) :
    cc0_transform_3 k0_off1_inb numel1_S1 pf i = ![(wd (pf 1) i).toNat, (i 0).val, (i 1).val] := by
  have h : (i 1).val < 4 := (i 1).isLt
  have h' : (i 0).val < 2 := (i 0).isLt
  unfold cc0_transform_3
  funext a
  match a with
  | ⟨0, _⟩ => exact congrArg BitVec.toNat (congrArg (pf 1) (funext fun a => Fin.ext (Nat.add_zero _)))
  | ⟨1, _⟩ => show (BitVec.ofNat 32 (i 0).val).toNat = (i 0).val; rw [BitVec.toNat_ofNat]; omega
  | ⟨2, _⟩ => show (BitVec.ofNat 32 (i 1).val).toNat = (i 1).val; rw [BitVec.toNat_ofNat]; omega

theorem tabs_ok : ok0 (tabs m) := by
  refine ⟨fun i => ⟨fun a => ?_, .inr (Affine.block_words_dvd (by decide) (by decide))⟩, fun i => ⟨fun a => ?_, .inr (Affine.block_words_dvd (by decide) (by decide))⟩,
    fun i => ⟨fun a => ?_, .inl rfl⟩⟩
  · have h : (wd (tabs m 2) i).toNat < 16 := wd_blk_lt m i
    have h' : (i 0).val < 2 := (i 0).isLt
    rw [tr1]
    match a with
    | ⟨0, _⟩ => show ((wd (tabs m 2) i).toNat + 1) * 1024 ≤ 16384; omega
    | ⟨1, _⟩ => show ((i 0).val + 1) * 2560 ≤ 5120; omega
  · have h : (wd (tabs m 2) i).toNat < 16 := wd_blk_lt m i
    have h' : (i 1).val < 4 := (i 1).isLt
    rw [tr2]
    match a with
    | ⟨0, _⟩ => show ((wd (tabs m 2) i).toNat + 1) * 1024 ≤ 16384; omega
    | ⟨1, _⟩ => show ((i 1).val + 1) * 2048 ≤ 8192; omega
  · have h : (wd (tabs m 1) i).toNat < 3 := wd_exp_lt m i
    have h' : (i 0).val < 2 := (i 0).isLt
    have h'' : (i 1).val < 4 := (i 1).isLt
    rw [tr3]
    match a with
    | ⟨0, _⟩ => show ((wd (tabs m 1) i).toNat + 1) * 1 ≤ 3; omega
    | ⟨1, _⟩ => show ((i 0).val + 1) * 2560 ≤ 5120; omega
    | ⟨2, _⟩ => show ((i 1).val + 1) * 2048 ≤ 8192; omega

/-- The tables as contents the call is admitted at. -/
def adm : (pcfg0 (F := F)).Adm := ⟨tabs m, tabs_ok m⟩

theorem chk (i : grid0.Coords) : k0_chk1 (wd (T1 m) i) (wd (T3 m) i) := by
  have h := wd_exp_lt m i
  generalize wd (T1 m) i = w at h
  refine ⟨fun _ a => ?_, fun _ a => ?_, fun _ a => ?_⟩
  · match a with
    | ⟨0, _⟩ => show w.toNat + 1 ≤ 4; omega
  · match a with
    | ⟨0, _⟩ =>
      show (w + 1#32).toNat + 1 ≤ 4
      rw [BitVec.toNat_add]; show (w.toNat + 1) % 2 ^ 32 + 1 ≤ 4; omega
  · match a with
    | ⟨0, _⟩ => show w.toNat + 1 ≤ 3; omega

/-! ## The body at every visit -/

/-- What an input's block holds at a visit, if it was as given before it was brought in. -/
def in0 (c : Dev nD) (t : Fin (cfg0 (adm m)).N) (d : S3.Idx → Elt F .f32) : S3.Idx → Elt F .f32 :=
  ((cfg0 (adm m)).win 0).fill (grid0.coords t) d (((cfg0 (adm m)).win 0 |>.blk t).view.read (Elt F) (V m c (arrRef (cfg0 (adm m)).spec 0)))
def in1 (c : Dev nD) (t : Fin (cfg0 (adm m)).N) (d : S1024x2560.Idx → Elt F .fp8e4m3) : S1024x2560.Idx → Elt F .fp8e4m3 :=
  ((cfg0 (adm m)).win 1).fill (grid0.coords t) d (((cfg0 (adm m)).win 1 |>.blk t).view.read (Elt F) (V m c (arrRef (cfg0 (adm m)).spec 1)))
def in2 (c : Dev nD) (t : Fin (cfg0 (adm m)).N) (d : S1024x2048.Idx → Elt F .fp8e5m2) : S1024x2048.Idx → Elt F .fp8e5m2 :=
  ((cfg0 (adm m)).win 2).fill (grid0.coords t) d (((cfg0 (adm m)).win 2 |>.blk t).view.read (Elt F) (V m c (arrRef (cfg0 (adm m)).spec 2)))
/-- The output block after a visit, from what was found there. -/
def Aft (c : Dev nD) (t : Fin (cfg0 (adm m)).N) (Y X : S1x2560x2048.Idx → Elt F .f32) : Prop :=
  ∃ d0 d1 d2, X = bodyOut (grid0.coords t) (T0 m) (T1 m) (T2 m) (T3 m) (in0 m c t d0) (in1 m c t d1) (in2 m c t d2) Y

/-- What is known at every visit: an input block holds its part of its array, whatever was there; the output block goes from what was found there to what
    the visit's steps leave. -/
def rdat (c : Dev nD) : RDat τ (Elt F) Unit ℕ (UR sig nD τ) ℕ (cfg0 (adm m)) c where
  A w := V m c (arrRef (cfg0 (adm m)).spec w)
  after := fun
    | 0, _, Y, X => X = Y
    | 1, _, Y, X => X = Y
    | 2, _, Y, X => X = Y
    | 3, t, Y, X => Aft m c t Y X
    | ⟨_ + 4, h⟩, _, _, _ => absurd h (Nat.not_lt.2 (Nat.le_add_left _ _))
  Φ _ := iprop(ΦA (cfg0 (adm m)).spec c ∗ ΦT pre0 (tabs m) c)
  q _ := fullShare
  owed _ := 0

theorem phiT_eq (v : pre0.Contents (Elt F)) (c : Dev nD) : (ΦT pre0 v c : sProp 𝕄)
    = iprop(tbPt c tM0 (v 0) ∗ tbPt c tM1 (v 1) ∗ tbPt c tM2 (v 2) ∗ tbPt c tM3 (v 3)) := by
  unfold ΦT prefHeld
  rw [show (Finset.univ : Finset (Fin 4)) = insert 0 (insert 1 (insert 2 {3})) from by decide, bigSep_insert (by decide), bigSep_insert (by decide),
    bigSep_insert (by decide), bigSep_singleton]
  rfl

theorem defs₀_row (t : Fin (cfg0 (adm m)).N) : defs₀ (F := F) .tc (cfg0 (adm m)).body ((cfg0 (adm m)).bodyArgs t ((cfg0 (adm m)).slots t))
    = cc0_tgmm (grid0.coords t) tM0 (Memref.isWhole_whole _) tM1 (Memref.isWhole_whole _) tM2 (Memref.isWhole_whole _) tM3 (Memref.isWhole_whole _)
      (spec0_0.stage ((cfg0 (adm m)).slots t 0)) (hstage0_0 (((cfg0 (adm m)).slots t 0).cast nbuf0_0))
      (spec0_1.stage ((cfg0 (adm m)).slots t 1)) (hstage0_1 (((cfg0 (adm m)).slots t 1).cast nbuf0_1))
      (spec0_2.stage ((cfg0 (adm m)).slots t 2)) (hstage0_2 (((cfg0 (adm m)).slots t 2).cast nbuf0_2))
      (spec0_3.stage ((cfg0 (adm m)).slots t 3)) (hstage0_3 (((cfg0 (adm m)).slots t 3).cast nbuf0_3)) := by
  unfold defs₀; rw [Defs.onTc_tc]

theorem aft_of (c : Dev nD) (t : Fin (cfg0 (adm m)).N) (Y X : S1x2560x2048.Idx → Elt F .f32) (h : (rdat m c).after 3 t Y X) : Aft m c t Y X := h

theorem found0 (c : Dev nD) (t : Fin (cfg0 (adm m)).N) (Y) (h : (rdat m c).Finds 0 t Y) : ∃ d, Y = in0 m c t d :=
  RDat.finds_in_eq_fetched (rdat m c) 0 rfl (fun _ _ _ => rfl) (fun _ _ _ h => h) t Y h
theorem found1 (c : Dev nD) (t : Fin (cfg0 (adm m)).N) (Y) (h : (rdat m c).Finds 1 t Y) : ∃ d, Y = in1 m c t d :=
  RDat.finds_in_eq_fetched (rdat m c) 1 rfl (fun _ _ _ => rfl) (fun _ _ _ h => h) t Y h
theorem found2 (c : Dev nD) (t : Fin (cfg0 (adm m)).N) (Y) (h : (rdat m c).Finds 2 t Y) : ∃ d, Y = in2 m c t d :=
  RDat.finds_in_eq_fetched (rdat m c) 2 rfl (fun _ _ _ => rfl) (fun _ _ _ h => h) t Y h

/-- The body at one visit. -/
theorem sound_body (c : Dev nD) (t : Fin (cfg0 (adm m)).N) (Y : (w : Fin (cfg0 (adm m)).W) → ((cfg0 (adm m)).win w).block.Idx → Elt F ((cfg0 (adm m)).win w).elt) (hY : ∀ w, (rdat m c).Finds w t (Y w)) :
    iprop((ΦA (cfg0 (adm m)).spec c ∗ ΦT pre0 (tabs m) c)
      ∗ (rdat m c).owesAt () t.castSucc
      ∗ (owns c (spec0_0.stage ((cfg0 (adm m)).slots t 0)) fullShare (Y 0) ∗ owns c (spec0_1.stage ((cfg0 (adm m)).slots t 1)) fullShare (Y 1)
        ∗ owns c (spec0_2.stage ((cfg0 (adm m)).slots t 2)) fullShare (Y 2) ∗ owns c (spec0_3.stage ((cfg0 (adm m)).slots t 3)) fullShare (Y 3)))
    ⊢ wp frame (wpE (defs₀ (F := F)) Variants.none c none) Set.univ
      (cc0_tgmm (grid0.coords t) tM0 (Memref.isWhole_whole _) tM1 (Memref.isWhole_whole _) tM2 (Memref.isWhole_whole _) tM3 (Memref.isWhole_whole _)
      (spec0_0.stage ((cfg0 (adm m)).slots t 0)) (hstage0_0 (((cfg0 (adm m)).slots t 0).cast nbuf0_0))
      (spec0_1.stage ((cfg0 (adm m)).slots t 1)) (hstage0_1 (((cfg0 (adm m)).slots t 1).cast nbuf0_1))
      (spec0_2.stage ((cfg0 (adm m)).slots t 2)) (hstage0_2 (((cfg0 (adm m)).slots t 2).cast nbuf0_2))
      (spec0_3.stage ((cfg0 (adm m)).slots t 3)) (hstage0_3 (((cfg0 (adm m)).slots t 3).cast nbuf0_3)))
      (fun _ => iprop((ΦA (cfg0 (adm m)).spec c ∗ ΦT pre0 (tabs m) c)
        ∗ (rdat m c).owesAt () t.succ
        ∗ ((∃ X, ⌜(rdat m c).after 0 t (Y 0) X⌝ ∗ owns c (spec0_0.stage ((cfg0 (adm m)).slots t 0)) fullShare X)
          ∗ (∃ X, ⌜(rdat m c).after 1 t (Y 1) X⌝ ∗ owns c (spec0_1.stage ((cfg0 (adm m)).slots t 1)) fullShare X)
          ∗ (∃ X, ⌜(rdat m c).after 2 t (Y 2) X⌝ ∗ owns c (spec0_2.stage ((cfg0 (adm m)).slots t 2)) fullShare X)
          ∗ (∃ X, ⌜(rdat m c).after 3 t (Y 3) X⌝ ∗ owns c (spec0_3.stage ((cfg0 (adm m)).slots t 3)) fullShare X)))) := by
  obtain ⟨d0, h0⟩ := found0 m c t _ (hY 0)
  obtain ⟨d1, h1⟩ := found1 m c t _ (hY 1)
  obtain ⟨d2, h2⟩ := found2 m c t _ (hY 2)
  have hX : (rdat m c).after 3 t (Y 3) (bodyOut (grid0.coords t) (T0 m) (T1 m) (T2 m) (T3 m) (Y 0) (Y 1) (Y 2) (Y 3)) :=
    ⟨d0, d1, d2, by rw [h0, h1, h2]⟩
  rw [phiT_eq]
  iintro ⟨⟨A, F0, F1, F2, F3⟩, W, H0, H1, H2, H3⟩
  iapply kernelRun c (grid0.coords t) (spec0_0.stage ((cfg0 (adm m)).slots t 0)) _ (spec0_1.stage ((cfg0 (adm m)).slots t 1)) _ (spec0_2.stage ((cfg0 (adm m)).slots t 2)) _
    (spec0_3.stage ((cfg0 (adm m)).slots t 3)) _ (T0 m) (T1 m) (T2 m) (T3 m) (Y 0) (Y 1) (Y 2) (Y 3) (chk m _) _
  isplitl [F0]; iexact F0
  isplitl [F1]; iexact F1
  isplitl [F2]; iexact F2
  isplitl [F3]; iexact F3
  isplitl [H0]; iexact H0
  isplitl [H1]; iexact H1
  isplitl [H2]; iexact H2
  isplitl [H3]; iexact H3
  iintro ⟨F0, F1, F2, F3, H0, H1, H2, H3⟩
  isplitl [A F0 F1 F2 F3]
  · isplitl [A]; iexact A
    isplitl [F0]; iexact F0
    isplitl [F1]; iexact F1
    isplitl [F2]; iexact F2
    iexact F3
  unfold RDat.owesAt owesWithin
  icases W with ⟨%S, %hS, W⟩
  isplitl [W]
  · iexists S
    isplitr
    · ipureintro; exact fun _ _ => Or.inl trivial
    iexact W
  isplitl [H0]
  · iexists (Y 0)
    isplitr
    · ipureintro; exact rfl
    iexact H0
  isplitl [H1]
  · iexists (Y 1)
    isplitr
    · ipureintro; exact rfl
    iexact H1
  isplitl [H2]
  · iexists (Y 2)
    isplitr
    · ipureintro; exact rfl
    iexact H2
  iexists _
  isplitr
  · ipureintro; exact hX
  iexact H3

theorem body_obligation (c : Dev nD) : (rdat m c).BodyObligation defs₀ Variants.none () Set.univ := fun t Y hY => by
  rw [bigSep_W0, bigSep_W0, defs₀_row]
  exact triple_restated (sound_body m c t Y hY) rfl .rfl fun _ => .rfl

/-! ## The launch -/

theorem flat_eq (X : Valuation τ sig (Elt F)) : StableHlo.after [hostOps0 (F := F), hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17].flatten X = x18 X := by
  simp only [List.flatten_cons, List.flatten_nil, StableHlo.after_append]
  rfl

theorem hmain : Pipeline.HMainP (Ix := Unit) (Name := ℕ) (U := UR sig nD τ) (Lvl := ℕ) pcfgs 0 defs₀ Variants.none m (main (F := F)) (V m) := by
  have h := Pipeline.hmainP_prefixes (Ix := Unit) (Name := ℕ) (U := UR sig nD τ) (Lvl := ℕ) (pcs := pcfgs) (p := 0) (defs₀ := defs₀) (𝒱₀ := Variants.none) m (main (F := F)) [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
    (by exact ⟨hostOps0_sub, hostOps0_1_sub, hostOps0_2_sub, hostOps0_3_sub, hostOps0_4_sub, hostOps0_5_sub, hostOps0_6_sub, hostOps0_7_sub, hostOps0_8_sub,
      hostOps0_9_sub, hostOps0_10_sub, hostOps0_11_sub, hostOps0_12_sub, hostOps0_13_sub, hostOps0_14_sub, hostOps0_15_sub, hostOps0_16_sub, hostOps0_17_sub⟩)
    (by simp only [List.forall_cons, List.Forall]; repeat' constructor)
    main_chain
  have e : (fun (c : Dev nD) (b : Ref sig .tc) => StableHlo.after [hostOps0 (F := F), hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17].flatten (fun b => m (c, b)) (Proc.devRef .tc b)) = V m := by
    funext c b; exact congrFun (flat_eq _) _
  rw [← e]
  exact h

set_option backward.isDefEq.respectTransparency.types false in
theorem run_main : θ_run defs (onTc (τ := τ) (main (F := F))) (s₀ m ρ)
    (fun r => RDat.FramePost (cfg0 (adm m)) (rdat m) (V m) r ∧ r.2.sem = fun _ => 0) :=
  RDat.θ_run_frameP (Q' := _) pcfgs (fun _ => adm m) 0 launch0 defs₀ Variants.none (rdat m) m ρ main (body_obligation m)
    (fun c w => by unfold RDat.share; split <;> rfl) (fun _ _ => rfl) (V m) (hmain m) (fun _ _ => rfl)
    (fun c k => by rw [Subsingleton.elim c 0]; rfl) (fun _ _ => rfl) (hQ' := fun _ h => h)

variable {m} in
theorem fin_args {r : PUnit × MemSt nD τ sig (Elt F)} (h : RDat.FramePost (cfg0 (adm m)) (rdat m) (V m) r) (c : Dev nD) :
    r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) :=
  ⟨(RDat.FramePost.arr_in h c 1 rfl).trans (arg_0 (fun b => m (c, b))),
   ((h c).2 main_arg1 (Pipeline.mem_restRefs_of (win := spec0) main_arg1 (by decide) (by decide))).trans (arg_1 (fun b => m (c, b))),
   (RDat.FramePost.arr_in h c 2 rfl).trans (arg_2 (fun b => m (c, b))),
   ((h c).2 main_arg3 (Pipeline.mem_restRefs_of (win := spec0) main_arg3 (by decide) (by decide))).trans (arg_3 (fun b => m (c, b))),
   ((h c).2 main_arg4 (Pipeline.mem_restRefs_of (win := spec0) main_arg4 (by decide) (by decide))).trans (arg_4 (fun b => m (c, b)))⟩

end Cert.Kernel.Hand
-- ==== Proof.Sizes.lean ====
/-
  What the precondition says of the three sizes: each is a number of rows, and together they are no more than the rows there are.
-/
module
public import proofs.«01_k».proof.Pre_sizes_fit
public import proofs.«01_k».proof.Proof.Reads
public import Idealize.ShloMosaic.Lib.Affine
@[expose] public section
noncomputable section
namespace Cert.Visits
open Idealize.ShloMosaic Idealize.ShloMosaic.ValueIdx Idealize.ShloMosaic.WordArith

theorem and_one {a b : BitVec 1} (h : IntOp.andi a b = 1#1) : a = 1#1 ∧ b = 1#1 := by revert a b; decide

/-- A word that is at least zero and at most the number of rows is a number of rows. -/
theorem size_le {x : BitVec 32} (h0 : IntOp.cmpi .sge x 0#32 = 1#1) (h1 : IntOp.cmpi .sle x 16384#32 = 1#1) : x.toNat ≤ 16384 := by
  have e0 := IntOp.cmpi_sge.mp h0
  have e1 := IntOp.cmpi_sle.mp h1
  have k0 : (0#32 : BitVec 32).toInt = 0 := by decide
  have k1 : (16384#32 : BitVec 32).toInt = 16384 := by decide
  rw [k0] at e0; rw [k1] at e1
  rw [BitVec.toInt_eq_toNat_cond] at e0 e1
  have := x.isLt
  split_ifs at e0 e1 <;> omega

theorem sizes_of [Cert.Pre_sizes_fit.Facts] (a0 a1 a2 a3) (x : IVec (⟨1, ![3]⟩ : Shape) 32)
    (h : ∀ i, Cert.Pre_sizes_fit.fn (F := Ideal) a0 a1 a2 a3 x i = 1#1) :
    (x (ix1 0)).toNat + (x (ix1 1)).toNat + (x (ix1 2)).toNat ≤ 16384 := by
  have k : ∀ e : Fin 3, (x (ix1 e)).toNat ≤ 16384 ∧ IntOp.cmpi .sle (![x (ix1 0), x (ix1 0) + x (ix1 1), x (ix1 0) + x (ix1 1) + x (ix1 2)] e) 16384#32 = 1#1 := fun e => by
    have he := and_one (h (ix1 e))
    have h2 := and_one he.1
    refine ⟨size_le h2.1 h2.2, ?_⟩
    have c := cumsum3 x (broadcastInDim Cert.Pre_sizes_fit.S_ ![] Cert.Pre_sizes_fit.Facts.bcast_S_S_ (constantI Cert.Pre_sizes_fit.S_ 32 0#32)) rfl
      Cert.Pre_sizes_fit.Facts.reduceWindows_S3_S3_w3s1p2_0 Cert.Pre_sizes_fit.Facts.h_S_ e
    exact (congrArg (fun w => IntOp.cmpi .sle w 16384#32) c).symm.trans he.2
  have k0 := (k 0).1
  have k1 := (k 1).1
  obtain ⟨k2, k3⟩ := k 2
  have e1 := IntOp.cmpi_sle.mp k3
  have q : (![x (ix1 0), x (ix1 0) + x (ix1 1), x (ix1 0) + x (ix1 1) + x (ix1 2)] (2 : Fin 3)).toNat = (x (ix1 0)).toNat + (x (ix1 1)).toNat + (x (ix1 2)).toNat := by
    show (x (ix1 0) + x (ix1 1) + x (ix1 2)).toNat = _
    rw [BitVec.toNat_add, BitVec.toNat_add]
    omega
  have q1 : (16384#32 : BitVec 32).toInt = 16384 := by decide
  rw [q1, BitVec.toInt_eq_toNat_cond, q] at e1
  split_ifs at e1 <;> omega
end Cert.Visits
-- ==== Proof.KernelIdeal.Body.lean ====
module
public import proofs.«01_k».proof.Proof.Gen.KernelIdeal.Launch
public import proofs.«01_k».proof.Proof.Gen.KernelIdeal.Skeleton
public import Idealize.ShloMosaic.Lib.Pipeline.Frame
public import Idealize.ShloMosaic.Lib.Tactic
public import Idealize.ShloMosaic.Lib.VecWindow
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

abbrev tM0 : Memref sig .tc .smem S4 .i32 := Memref.whole main_v2
abbrev tM1 : Memref sig .tc .smem S19 .i32 := Memref.whole main_v21
abbrev tM2 : Memref sig .tc .smem S19 .i32 := Memref.whole main_v68
abbrev tM3 : Memref sig .tc .smem S19 .i32 := Memref.whole main_v128
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem lt_of_inb {n : Nat} {o : Fin 1 → Nat} (h : ∀ a, o a + S1.size a ≤ (⟨1, ![n]⟩ : Shape).size a) (a : Fin 1) :
    o a < (⟨1, ![n]⟩ : Shape).size a := by
  have := h a
  match a, this with
  | 0, this => exact this
/-- The word of a nineteen-entry table that a visit reads. -/
def wd (f : S19.Idx → Elt F .i32) (i : grid0.Coords) : BitVec 32 := f (fun a => ⟨k0_off1 i a, lt_of_inb (k0_off1_inb i) a⟩)
/-- The entry of a one-axis table at an offset, the first one for an offset past its end. -/
def entry {n : Nat} [NeZero n] {α : Type} (f : (⟨1, ![n]⟩ : Shape).Idx → α) (o : Fin 1 → Nat) : α :=
  if h : ∀ a, o a + S1.size a ≤ (⟨1, ![n]⟩ : Shape).size a then f (fun a => ⟨o a, lt_of_inb h a⟩)
  else f (fun a => match a with | 0 => (0 : Fin n))

/-- The four steps of a visit on the output block, each under its own bit of the visit's word: zeros, a product of the rows as they are, a product of
    the rows inside the expert's own range, the scale. -/
def acc1 (k : BitVec 32) (a : Vec F S1x2560x2048 .f32) : Vec F S1x2560x2048 .f32 := if k0_cond1 k = 1#1 then k0_pay1 else a
def acc2 (k : BitVec 32) (Y1 : Vec F S1024x2560 .fp8e4m3) (Y2 : Vec F S1024x2048 .fp8e5m2) (a : Vec F S1x2560x2048 .f32) : Vec F S1x2560x2048 .f32 :=
  if k0_cond2 k = 1#1 then k0_pay2 Y1 a Y2 else a
def acc3 (k b s n : BitVec 32) (Y1 : Vec F S1024x2560 .fp8e4m3) (Y2 : Vec F S1024x2048 .fp8e5m2) (a : Vec F S1x2560x2048 .f32) : Vec F S1x2560x2048 .f32 :=
  if k0_cond3 k = 1#1 then k0_pay3 (F := F) b s n Y1 a Y2 else a
def acc4 (k : BitVec 32) (z : F .f32) (a : Vec F S1x2560x2048 .f32) : Vec F S1x2560x2048 .f32 := if k0_cond4 k = 1#1 then k0_pay4 a z else a

/-- What a visit leaves in the output block: the four steps in order. -/
def bodyOut (i : grid0.Coords) (f0 : S4.Idx → Elt F .i32) (f1 f2 f3 : S19.Idx → Elt F .i32)
    (Y0 : Vec F S3 .f32) (Y1 : Vec F S1024x2560 .fp8e4m3) (Y2 : Vec F S1024x2048 .fp8e5m2) (Y3 : Vec F S1x2560x2048 .f32) : Vec F S1x2560x2048 .f32 :=
  acc4 (wd f3 i) (entry (n := 3) Y0 (k0_off5 (wd f1 i)))
    (acc3 (wd f3 i) (wd f2 i) (entry (n := 4) f0 (k0_off3 (wd f1 i))) (entry (n := 4) f0 (k0_off4 (wd f1 i))) Y1 Y2
      (acc2 (wd f3 i) Y1 Y2 (acc1 (wd f3 i) Y3)))

theorem pay2_congr {x x' : Vec F S1024x2560 .fp8e4m3} {a a' : Vec F S1x2560x2048 .f32} {y y' : Vec F S1024x2048 .fp8e5m2}
    (hx : x = x') (ha : a = a') (hy : y = y') : k0_pay2 x a y = k0_pay2 x' a' y' := by rw [hx, ha, hy]
theorem pay3_congr {b b' s s' n n' : BitVec 32} {x x' : Vec F S1024x2560 .fp8e4m3} {a a' : Vec F S1x2560x2048 .f32} {y y' : Vec F S1024x2048 .fp8e5m2}
    (hb : b = b') (hs : s = s') (hn : n = n') (hx : x = x') (ha : a = a') (hy : y = y') :
    k0_pay3 (F := F) b s n x a y = k0_pay3 (F := F) b' s' n' x' a' y' := by rw [hb, hs, hn, hx, ha, hy]
theorem pay4_congr {a a' : Vec F S1x2560x2048 .f32} {z z' : F .f32} (ha : a = a') (hz : z = z') : k0_pay4 a z = k0_pay4 a' z' := by rw [ha, hz]

/-- A word loaded from a one-axis buffer in scalar memory is the entry at the offset. -/
theorem readAt_entry {n : Nat} [NeZero n] {e : EltTy} (M : Memref sig .tc .smem ⟨1, ![n]⟩ e) (g : M.view.ty.Contents (Elt F)) (o : Fin 1 → Nat)
    (h : ∀ a, o a + S1.size a ≤ (⟨1, ![n]⟩ : Shape).size a) (hp : 0 < (Rect.unit (s := ⟨1, ![n]⟩) o S1.size h).shape.numel) :
    M.view.readAt (Elt F) (Rect.unit (s := ⟨1, ![n]⟩) o S1.size h).toLoadRect g (Shape.Idx.first hp) = entry (n := n) (M.view.read (Elt F) g) o := by
  unfold entry
  rw [dif_pos h]
  exact congrArg (M.view.read (Elt F) g) (funext fun a => Fin.ext (Nat.add_zero _))
theorem readAt_wd (c : Dev nD) (M : Memref sig .tc .smem S19 .i32) (g : M.view.ty.Contents (Elt F)) (i : grid0.Coords)
    (h : ∀ a, k0_off1 i a + S1.size a ≤ S19.size a) (hp : 0 < (Rect.unit (s := S19) (k0_off1 i) S1.size h).shape.numel) :
    M.view.readAt (Elt F) (Rect.unit (s := S19) (k0_off1 i) S1.size h).toLoadRect g (Shape.Idx.first hp) = wd (M.view.read (Elt F) g) i :=
  congrArg (M.view.read (Elt F) g) (funext fun a => Fin.ext (Nat.add_zero _))

set_option maxHeartbeats 4000000 in
theorem kernelRun (c : Dev nD) (i : grid0.Coords) (arg7 : Memref sig .tc .smem S3 .f32) (harg7 : arg7.IsWhole)
   (arg8 : Memref sig .tc .vmem S1024x2560 .fp8e4m3) (harg8 : arg8.IsWhole) (arg9 : Memref sig .tc .vmem S1024x2048 .fp8e5m2) (harg9 : arg9.IsWhole) (arg10 : Memref sig .tc .vmem S1x2560x2048 .f32) (harg10 : arg10.IsWhole)
   (f0 : TbBuf (F := F) c tM0) (f1 : TbBuf (F := F) c tM1) (f2 : TbBuf (F := F) c tM2) (f3 : TbBuf (F := F) c tM3)
   (Y0 : Vec F S3 .f32) (Y1 : Vec F S1024x2560 .fp8e4m3) (Y2 : Vec F S1024x2048 .fp8e5m2) (Y3 : Vec F S1x2560x2048 .f32)
   (hchk : k0_chk1 (wd f1 i) (wd f3 i)) (K : PUnit → sProp 𝕄) :
    iprop(tbPt c tM0 f0 ∗ tbPt c tM1 f1 ∗ tbPt c tM2 f2 ∗ tbPt c tM3 f3
       ∗ owns (c : Thread nD τ) arg7 fullShare Y0 ∗ owns (c : Thread nD τ) arg8 fullShare Y1 ∗ owns (c : Thread nD τ) arg9 fullShare Y2
       ∗ owns (c : Thread nD τ) arg10 fullShare Y3
       ∗ (iprop(tbPt c tM0 f0 ∗ tbPt c tM1 f1 ∗ tbPt c tM2 f2 ∗ tbPt c tM3 f3
           ∗ owns (c : Thread nD τ) arg7 fullShare Y0 ∗ owns (c : Thread nD τ) arg8 fullShare Y1 ∗ owns (c : Thread nD τ) arg9 fullShare Y2
           ∗ owns (c : Thread nD τ) arg10 fullShare (bodyOut i f0 f1 f2 f3 Y0 Y1 Y2 Y3)) -∗ K ⟨⟩))
      ⊢ wp frame (wpE (defs₀ (F := F)) Variants.none c none) Set.univ
          (cc0_tgmm i tM0 (Memref.isWhole_whole _) tM1 (Memref.isWhole_whole _) tM2 (Memref.isWhole_whole _) tM3 (Memref.isWhole_whole _) arg7 harg7 arg8 harg8 arg9 harg9 arg10 harg10) K := by
  simp only [cc0_tgmm_eq_skeleton]; unfold cc0_tgmm_skel
  unfold owns
  iintro ⟨T0, T1, T2, T3, ⟨%g0, %e0, H0⟩, ⟨%g1, %e1, H1⟩, ⟨%g2, %e2, H2⟩, ⟨%g3, %e3, H3⟩, Hk⟩
  by_cases h1 : k0_cond1 (wd f3 i) = 1#1
  · by_cases h2 : k0_cond2 (wd f3 i) = 1#1
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_pos h2, if_pos h1]
          refine (View.read_writes_full _ _ _ _ _).trans ?_
          subst e0 e1 e2 e3
          refine pay4_congr ?_ (readAt_entry arg7 _ _ _ _)
          refine (View.readCov_full _ _ _ _ _).trans ?_
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          refine pay2_congr (View.readAt_full _ _ _) ?_ (View.readAt_full _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_pos h2, if_pos h1]
          refine (View.read_writes_full _ _ _ _ _).trans ?_
          subst e0 e1 e2 e3
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          refine pay2_congr (View.readAt_full _ _ _) ?_ (View.readAt_full _ _ _)
          refine (View.readCov_full _ _ _ _ _).trans ?_
          exact rfl
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_pos h2, if_pos h1]
          refine (View.read_writes_full _ _ _ _ _).trans ?_
          subst e0 e1 e2 e3
          refine pay4_congr ?_ (readAt_entry arg7 _ _ _ _)
          refine (View.readCov_full _ _ _ _ _).trans ?_
          refine pay2_congr (View.readAt_full _ _ _) ?_ (View.readAt_full _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_pos h2, if_pos h1]
          refine (View.read_writes_full _ _ _ _ _).trans ?_
          subst e0 e1 e2 e3
          refine pay2_congr (View.readAt_full _ _ _) ?_ (View.readAt_full _ _ _)
          refine (View.readCov_full _ _ _ _ _).trans ?_
          exact rfl
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_neg h2, if_pos h1]
          refine (View.read_writes_full _ _ _ _ _).trans ?_
          subst e0 e1 e2 e3
          refine pay4_congr ?_ (readAt_entry arg7 _ _ _ _)
          refine (View.readCov_full _ _ _ _ _).trans ?_
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_neg h2, if_pos h1]
          refine (View.read_writes_full _ _ _ _ _).trans ?_
          subst e0 e1 e2 e3
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact rfl
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_neg h2, if_pos h1]
          refine (View.read_writes_full _ _ _ _ _).trans ?_
          subst e0 e1 e2 e3
          refine pay4_congr ?_ (readAt_entry arg7 _ _ _ _)
          refine (View.readCov_full _ _ _ _ _).trans ?_
          exact rfl
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_neg h2, if_pos h1]
          refine (View.read_writes_full _ _ _ _ _).trans ?_
          subst e0 e1 e2 e3
          exact rfl
  · by_cases h2 : k0_cond2 (wd f3 i) = 1#1
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_pos h2, if_neg h1]
          refine (View.read_writes_full _ _ _ _ _).trans ?_
          subst e0 e1 e2 e3
          refine pay4_congr ?_ (readAt_entry arg7 _ _ _ _)
          refine (View.readCov_full _ _ _ _ _).trans ?_
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact pay2_congr (View.readAt_full _ _ _) (View.readAt_full _ _ _) (View.readAt_full _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_pos h2, if_neg h1]
          refine (View.read_writes_full _ _ _ _ _).trans ?_
          subst e0 e1 e2 e3
          refine pay3_congr (readAt_wd c tM2 _ i _ _) (readAt_entry tM0 _ _ _ _) (readAt_entry tM0 _ _ _ _) (View.readAt_full _ _ _) ?_ (View.readAt_full _ _ _)
          refine (View.readCov_full _ _ _ _ _).trans ?_
          exact pay2_congr (View.readAt_full _ _ _) (View.readAt_full _ _ _) (View.readAt_full _ _ _)
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_pos h2, if_neg h1]
          refine (View.read_writes_full _ _ _ _ _).trans ?_
          subst e0 e1 e2 e3
          refine pay4_congr ?_ (readAt_entry arg7 _ _ _ _)
          refine (View.readCov_full _ _ _ _ _).trans ?_
          exact pay2_congr (View.readAt_full _ _ _) (View.readAt_full _ _ _) (View.readAt_full _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_pos h2, if_neg h1]
          refine (View.read_writes_full _ _ _ _ _).trans ?_
          subst e0 e1 e2 e3
          exact pay2_congr (View.readAt_full _ _ _) (View.readAt_full _ _ _) (View.readAt_full _ _ _)
    · by_cases h3 : k0_cond3 (wd f3 i) = 1#1
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_pos h3, if_neg h2, if_neg h1]
          refine (View.read_writes_full _ _ _ _ _).trans ?_
          subst e0 e1 e2 e3
          refine pay4_congr ?_ (readAt_entry arg7 _ _ _ _)
          refine (View.readCov_full _ _ _ _ _).trans ?_
          exact pay3_congr (readAt_wd c tM2 _ i _ _) (readAt_entry tM0 _ _ _ _) (readAt_entry tM0 _ _ _ _) (View.readAt_full _ _ _) (View.readAt_full _ _ _) (View.readAt_full _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_pos h3, if_neg h2, if_neg h1]
          refine (View.read_writes_full _ _ _ _ _).trans ?_
          subst e0 e1 e2 e3
          exact pay3_congr (readAt_wd c tM2 _ i _ _) (readAt_entry tM0 _ _ _ _) (readAt_entry tM0 _ _ _ _) (View.readAt_full _ _ _) (View.readAt_full _ _ _) (View.readAt_full _ _ _)
      · by_cases h4 : k0_cond4 (wd f3 i) = 1#1
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_pos h4, if_neg h3, if_neg h2, if_neg h1]
          refine (View.read_writes_full _ _ _ _ _).trans ?_
          subst e0 e1 e2 e3
          exact pay4_congr (View.readAt_full _ _ _) (readAt_entry arg7 _ _ _ _)
        · sl_exec (disch := first | exact hchk | exact h1 | exact h2 | exact h3 | exact h4)
          sl_step
          iapply Hk
          isplitl [T0]; · iexact T0
          isplitl [T1]; · iexact T1
          isplitl [T2]; · iexact T2
          isplitl [T3]; · iexact T3
          isplitl [H0]
          · iexists _; isplitr; swap; · iexact H0
            ipureintro; exact e0
          isplitl [H1]
          · iexists _; isplitr; swap; · iexact H1
            ipureintro; exact e1
          isplitl [H2]
          · iexists _; isplitr; swap; · iexact H2
            ipureintro; exact e2
          iexists _; isplitr; swap; · iexact H3
          ipureintro
          unfold bodyOut acc1 acc2 acc3 acc4
          rw [if_neg h4, if_neg h3, if_neg h2, if_neg h1]
          exact e3
-- ==== Proof.KernelIdeal.Tables.lean ====
/-
  What the host leaves in the tables that the call prefetches: every entry is a word of the table of visits (Visits.lean).
-/
module
public import proofs.«01_k».proof.Proof.Gen.KernelIdeal.Launch
public import proofs.«01_k».proof.Proof.Reads
public import Idealize.ShloMosaic.Lib.Pipeline.Frame
public import Idealize.ShloMosaic.Lib.StableHlo.ReadAt
@[expose] public section
noncomputable section
namespace Cert.KernelIdeal.Hand
open Cert.KernelIdeal Cert.KernelIdeal.Gen
open Idealize.ShloMosaic hiding ix1 ix2
open Idealize.ShloMosaic.TcCoe Idealize.ShloMosaic.ValueIdx
open Idealize.SL Idealize.SL.RA Idealize.SL.BI
open Idealize.SL.Sem
variable {F : FTy → Type} [FloatOps F]
variable (X : Valuation τ sig (Elt F))

/-! ## The contents after each stretch of host operations, and what a stretch leaves alone -/

def x0 : Valuation τ sig (Elt F) := X
def x1 : Valuation τ sig (Elt F) := StableHlo.after (hostOps0 (F := F)) (x0 X)
def x2 : Valuation τ sig (Elt F) := StableHlo.after (hostOps0_1 (F := F)) (x1 X)
def x3 : Valuation τ sig (Elt F) := StableHlo.after (hostOps0_2 (F := F)) (x2 X)
def x4 : Valuation τ sig (Elt F) := StableHlo.after (hostOps0_3 (F := F)) (x3 X)
def x5 : Valuation τ sig (Elt F) := StableHlo.after (hostOps0_4 (F := F)) (x4 X)
def x6 : Valuation τ sig (Elt F) := StableHlo.after (hostOps0_5 (F := F)) (x5 X)
def x7 : Valuation τ sig (Elt F) := StableHlo.after (hostOps0_6 (F := F)) (x6 X)
def x8 : Valuation τ sig (Elt F) := StableHlo.after (hostOps0_7 (F := F)) (x7 X)
def x9 : Valuation τ sig (Elt F) := StableHlo.after (hostOps0_8 (F := F)) (x8 X)
def x10 : Valuation τ sig (Elt F) := StableHlo.after (hostOps0_9 (F := F)) (x9 X)
def x11 : Valuation τ sig (Elt F) := StableHlo.after (hostOps0_10 (F := F)) (x10 X)
def x12 : Valuation τ sig (Elt F) := StableHlo.after (hostOps0_11 (F := F)) (x11 X)
def x13 : Valuation τ sig (Elt F) := StableHlo.after (hostOps0_12 (F := F)) (x12 X)
def x14 : Valuation τ sig (Elt F) := StableHlo.after (hostOps0_13 (F := F)) (x13 X)
def x15 : Valuation τ sig (Elt F) := StableHlo.after (hostOps0_14 (F := F)) (x14 X)
def x16 : Valuation τ sig (Elt F) := StableHlo.after (hostOps0_15 (F := F)) (x15 X)
def x17 : Valuation τ sig (Elt F) := StableHlo.after (hostOps0_16 (F := F)) (x16 X)
def x18 : Valuation τ sig (Elt F) := StableHlo.after (hostOps0_17 (F := F)) (x17 X)
theorem ps0 {r : Ref sig .tc} (hr : r ∉ ([main_c, main_v0] : List (Ref sig .tc))) : x1 X (Proc.devRef .tc r) = x0 X (Proc.devRef .tc r) :=
  StableHlo.after_unwritten (ops := hostOps0 (F := F)) [main_c, main_v0] rfl hr _
theorem ps1 {r : Ref sig .tc} (hr : r ∉ ([main_call0_call0_c, main_call0_call0_v0, main_v1] : List (Ref sig .tc))) : x2 X (Proc.devRef .tc r) = x1 X (Proc.devRef .tc r) :=
  StableHlo.after_unwritten (ops := hostOps0_1 (F := F)) [main_call0_call0_c, main_call0_call0_v0, main_v1] rfl hr _
theorem ps2 {r : Ref sig .tc} (hr : r ∉ ([main_v2, main_v3, main_v4, main_v5, main_v6, main_c_0] : List (Ref sig .tc))) : x3 X (Proc.devRef .tc r) = x2 X (Proc.devRef .tc r) :=
  StableHlo.after_unwritten (ops := hostOps0_2 (F := F)) [main_v2, main_v3, main_v4, main_v5, main_v6, main_c_0] rfl hr _
theorem ps3 {r : Ref sig .tc} (hr : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7] : List (Ref sig .tc))) : x4 X (Proc.devRef .tc r) = x3 X (Proc.devRef .tc r) :=
  StableHlo.after_unwritten (ops := hostOps0_3 (F := F)) [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v7] rfl hr _
theorem ps4 {r : Ref sig .tc} (hr : r ∉ ([main_c_1, main_v8, main_v9, main_c_2, main_v10, main_v11, main_c_3, main_v12, main_v13, main_c_4] : List (Ref sig .tc))) : x5 X (Proc.devRef .tc r) = x4 X (Proc.devRef .tc r) :=
  StableHlo.after_unwritten (ops := hostOps0_4 (F := F)) [main_c_1, main_v8, main_v9, main_c_2, main_v10, main_v11, main_c_3, main_v12, main_v13, main_c_4] rfl hr _
theorem ps5 {r : Ref sig .tc} (hr : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v14] : List (Ref sig .tc))) : x6 X (Proc.devRef .tc r) = x5 X (Proc.devRef .tc r) :=
  StableHlo.after_unwritten (ops := hostOps0_5 (F := F)) [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v14] rfl hr _
theorem ps6 {r : Ref sig .tc} (hr : r ∉ ([main_v15] : List (Ref sig .tc))) : x7 X (Proc.devRef .tc r) = x6 X (Proc.devRef .tc r) :=
  StableHlo.after_unwritten (ops := hostOps0_6 (F := F)) [main_v15] rfl hr _
theorem ps7 {r : Ref sig .tc} (hr : r ∉ ([main_v16] : List (Ref sig .tc))) : x8 X (Proc.devRef .tc r) = x7 X (Proc.devRef .tc r) :=
  StableHlo.after_unwritten (ops := hostOps0_7 (F := F)) [main_v16] rfl hr _
theorem ps8 {r : Ref sig .tc} (hr : r ∉ ([main_call4_call0_c, main_call4_call0_v0, main_v17] : List (Ref sig .tc))) : x9 X (Proc.devRef .tc r) = x8 X (Proc.devRef .tc r) :=
  StableHlo.after_unwritten (ops := hostOps0_8 (F := F)) [main_call4_call0_c, main_call4_call0_v0, main_v17] rfl hr _
theorem ps9 {r : Ref sig .tc} (hr : r ∉ ([main_v18] : List (Ref sig .tc))) : x10 X (Proc.devRef .tc r) = x9 X (Proc.devRef .tc r) :=
  StableHlo.after_unwritten (ops := hostOps0_9 (F := F)) [main_v18] rfl hr _
theorem ps10 {r : Ref sig .tc} (hr : r ∉ ([main_call5_call0_v0, main_call5_call0_v1, main_call5_call0_v2, main_call5_call0_v3, main_call5_call0_v4, main_call5_call0_v5, main_call5_call0_c, main_v19] : List (Ref sig .tc))) : x11 X (Proc.devRef .tc r) = x10 X (Proc.devRef .tc r) :=
  StableHlo.after_unwritten (ops := hostOps0_10 (F := F)) [main_call5_call0_v0, main_call5_call0_v1, main_call5_call0_v2, main_call5_call0_v3, main_call5_call0_v4, main_call5_call0_v5, main_call5_call0_c, main_v19] rfl hr _
theorem ps11 {r : Ref sig .tc} (hr : r ∉ ([main_c_5, main_v20, main_v21, main_v22, main_v23, main_v24, main_v25, main_c_6, main_v26, main_v27, main_c_7, main_v28, main_v29, main_v30, main_v31, main_v32, main_c_8, main_v33, main_v34, main_c_9, main_v35, main_v36, main_v37, main_v38, main_v39, main_v40, main_v41, main_c_10, main_v42, main_v43, main_c_11, main_v44, main_v45, main_v46, main_v47, main_v48, main_v49, main_c_12, main_v50, main_v51, main_c_13, main_v52, main_v53, main_v54, main_v55, main_v56, main_c_14, main_v57, main_v58, main_c_15, main_v59, main_v60, main_v61, main_v62, main_v63, main_v64, main_c_16, main_v65, main_v66] : List (Ref sig .tc))) : x12 X (Proc.devRef .tc r) = x11 X (Proc.devRef .tc r) :=
  StableHlo.after_unwritten (ops := hostOps0_11 (F := F)) [main_c_5, main_v20, main_v21, main_v22, main_v23, main_v24, main_v25, main_c_6, main_v26, main_v27, main_c_7, main_v28, main_v29, main_v30, main_v31, main_v32, main_c_8, main_v33, main_v34, main_c_9, main_v35, main_v36, main_v37, main_v38, main_v39, main_v40, main_v41, main_c_10, main_v42, main_v43, main_c_11, main_v44, main_v45, main_v46, main_v47, main_v48, main_v49, main_c_12, main_v50, main_v51, main_c_13, main_v52, main_v53, main_v54, main_v55, main_v56, main_c_14, main_v57, main_v58, main_c_15, main_v59, main_v60, main_v61, main_v62, main_v63, main_v64, main_c_16, main_v65, main_v66] rfl hr _
theorem ps12 {r : Ref sig .tc} (hr : r ∉ ([main_v67] : List (Ref sig .tc))) : x13 X (Proc.devRef .tc r) = x12 X (Proc.devRef .tc r) :=
  StableHlo.after_unwritten (ops := hostOps0_12 (F := F)) [main_v67] rfl hr _
theorem ps13 {r : Ref sig .tc} (hr : r ∉ ([main_c_17, main_c_18] : List (Ref sig .tc))) : x14 X (Proc.devRef .tc r) = x13 X (Proc.devRef .tc r) :=
  StableHlo.after_unwritten (ops := hostOps0_13 (F := F)) [main_c_17, main_c_18] rfl hr _
theorem ps14 {r : Ref sig .tc} (hr : r ∉ ([main_call7_v0, main_call7_v1, main_call7_v2, main_call7_v3, main_call7_v4, main_v68] : List (Ref sig .tc))) : x15 X (Proc.devRef .tc r) = x14 X (Proc.devRef .tc r) :=
  StableHlo.after_unwritten (ops := hostOps0_14 (F := F)) [main_call7_v0, main_call7_v1, main_call7_v2, main_call7_v3, main_call7_v4, main_v68] rfl hr _
theorem ps15 {r : Ref sig .tc} (hr : r ∉ ([main_c_19, main_v69, main_v70, main_c_20, main_v71, main_v72, main_v73, main_v74, main_v75, main_c_21, main_v76, main_v77, main_v78, main_c_22, main_v79, main_v80, main_c_23, main_v81, main_v82, main_v83, main_v84, main_v85, main_c_24, main_v86, main_v87, main_c_25, main_v88, main_v89, main_v90, main_v91, main_c_26, main_v92, main_v93, main_v94, main_c_27, main_v95, main_v96, main_c_28, main_v97, main_v98, main_c_29, main_v99, main_v100, main_v101, main_v102, main_v103, main_c_30, main_v104, main_v105, main_v106, main_v107, main_c_31, main_v108, main_v109, main_v110, main_c_32, main_v111, main_v112, main_c_33, main_v113, main_v114, main_v115, main_v116, main_v117, main_v118, main_v119, main_c_34, main_v120, main_v121, main_v122, main_v123, main_c_35, main_v124, main_v125, main_v126, main_c_36] : List (Ref sig .tc))) : x16 X (Proc.devRef .tc r) = x15 X (Proc.devRef .tc r) :=
  StableHlo.after_unwritten (ops := hostOps0_15 (F := F)) [main_c_19, main_v69, main_v70, main_c_20, main_v71, main_v72, main_v73, main_v74, main_v75, main_c_21, main_v76, main_v77, main_v78, main_c_22, main_v79, main_v80, main_c_23, main_v81, main_v82, main_v83, main_v84, main_v85, main_c_24, main_v86, main_v87, main_c_25, main_v88, main_v89, main_v90, main_v91, main_c_26, main_v92, main_v93, main_v94, main_c_27, main_v95, main_v96, main_c_28, main_v97, main_v98, main_c_29, main_v99, main_v100, main_v101, main_v102, main_v103, main_c_30, main_v104, main_v105, main_v106, main_v107, main_c_31, main_v108, main_v109, main_v110, main_c_32, main_v111, main_v112, main_c_33, main_v113, main_v114, main_v115, main_v116, main_v117, main_v118, main_v119, main_c_34, main_v120, main_v121, main_v122, main_v123, main_c_35, main_v124, main_v125, main_v126, main_c_36] rfl hr _
theorem ps16 {r : Ref sig .tc} (hr : r ∉ ([main_call8_v0, main_v127] : List (Ref sig .tc))) : x17 X (Proc.devRef .tc r) = x16 X (Proc.devRef .tc r) :=
  StableHlo.after_unwritten (ops := hostOps0_16 (F := F)) [main_call8_v0, main_v127] rfl hr _
theorem ps17 {r : Ref sig .tc} (hr : r ∉ ([main_v128] : List (Ref sig .tc))) : x18 X (Proc.devRef .tc r) = x17 X (Proc.devRef .tc r) :=
  StableHlo.after_unwritten (ops := hostOps0_17 (F := F)) [main_v128] rfl hr _

/-! ## What each stretch leaves in the buffers it writes, at an entry, over a table of visits -/

section Stretches
variable (g : Fin 3 → BitVec 32)
theorem l0_v0 : StableHlo.after (hostOps0 (F := F)) X (Proc.devRef .tc main_v0) (ix1 0) = 0#32 := by
  after_reads_at

theorem l1_v1 (h : ∀ e : Fin 3, X (Proc.devRef .tc main_arg4) (ix1 e) = g e) (e : Fin 3) : StableHlo.after (hostOps0_1 (F := F)) X (Proc.devRef .tc main_v1) (ix1 e) = Cert.Visits.bnd g e.succ := by
  after_reads_at
  refine (Cert.Visits.cumsum3 _ _ rfl _ _ e).trans ?_
  fin_cases e
  · exact h 0
  · exact congrArg₂ (fun a b : BitVec 32 => a + b) (h 0) (h 1)
  · exact congrArg₂ (fun a b : BitVec 32 => a + b) (congrArg₂ (fun a b : BitVec 32 => a + b) (h 0) (h 1)) (h 2)

theorem bnd_split (n : ℕ) (p : n < 1 → BitVec 32) (q : ¬ n < 1 → BitVec 32) (j : Fin 4) (hn : n = j.val) (hp : ∀ h, p h = 0#32)
    (hq : ∀ h (k : Fin 3), n - 1 = k.val → q h = Cert.Visits.bnd g k.succ) : (if h : n < 1 then p h else q h) = Cert.Visits.bnd g j := by
  split <;> rename_i h
  · rw [hp h]; obtain rfl : j = 0 := Fin.ext (by show j.val = 0; omega)
    rfl
  · have := j.isLt
    rw [hq h ⟨n - 1, by omega⟩ rfl]; exact congrArg _ (Fin.ext (by show n - 1 + 1 = j.val; omega))

theorem l2_v2 (h0 : ∀ e : Fin 1, X (Proc.devRef .tc main_v0) (ix1 e) = 0#32) (h1 : ∀ e : Fin 3, X (Proc.devRef .tc main_v1) (ix1 e) = Cert.Visits.bnd g e.succ) (j : Fin 4) : StableHlo.after (hostOps0_2 (F := F)) X (Proc.devRef .tc main_v2) (ix1 j) = Cert.Visits.bnd g j := by
  after_reads_at
  refine bnd_split g _ _ _ j rfl (fun h => (congrArg (X (Proc.devRef .tc main_v0)) (funext fun a => ?_)).trans (h0 0))
    (fun h k hk => (congrArg (X (Proc.devRef .tc main_v1)) (funext fun a => ?_)).trans (h1 k))
  · match a with
    | ⟨0, _⟩ => exact Fin.ext (by have : (0 : Fin 1).val = 0 := rfl; show (j.val : ℕ) = 0; have h' : (j.val : ℕ) < 1 := h; omega)
  · match a with
    | ⟨0, _⟩ => exact Fin.ext hk

theorem l2_v4 (h0 : ∀ e : Fin 1, X (Proc.devRef .tc main_v0) (ix1 e) = 0#32) (h1 : ∀ e : Fin 3, X (Proc.devRef .tc main_v1) (ix1 e) = Cert.Visits.bnd g e.succ) (e : Fin 3) : StableHlo.after (hostOps0_2 (F := F)) X (Proc.devRef .tc main_v4) (ix1 e) = Cert.Visits.bnd g e.castSucc := by
  after_reads_at
  refine bnd_split g _ _ _ e.castSucc rfl (fun h => (congrArg (X (Proc.devRef .tc main_v0)) (funext fun a => ?_)).trans (h0 0))
    (fun h k hk => (congrArg (X (Proc.devRef .tc main_v1)) (funext fun a => ?_)).trans (h1 k))
  · match a with
    | ⟨0, _⟩ => exact Fin.ext (by have : (0 : Fin 1).val = 0 := rfl; show (e.val : ℕ) = 0; have h' : (e.val : ℕ) < 1 := h; omega)
  · match a with
    | ⟨0, _⟩ => exact Fin.ext hk

theorem l2_v5 (h0 : ∀ e : Fin 1, X (Proc.devRef .tc main_v0) (ix1 e) = 0#32) (h1 : ∀ e : Fin 3, X (Proc.devRef .tc main_v1) (ix1 e) = Cert.Visits.bnd g e.succ) (e : Fin 3) : StableHlo.after (hostOps0_2 (F := F)) X (Proc.devRef .tc main_v5) (ix1 e) = Cert.Visits.bnd g e.succ := by
  after_reads_at
  exact h1 e

theorem l2_v6 (h0 : ∀ e : Fin 1, X (Proc.devRef .tc main_v0) (ix1 e) = 0#32) (h1 : ∀ e : Fin 3, X (Proc.devRef .tc main_v1) (ix1 e) = Cert.Visits.bnd g e.succ) (e : Fin 3) : StableHlo.after (hostOps0_2 (F := F)) X (Proc.devRef .tc main_v6) (ix1 e) = Cert.Visits.none g e := by
  after_reads_at
  refine congrArg₂ (IntOp.cmpi .sle) (h1 e) (bnd_split g _ _ _ e.castSucc rfl (fun h => (congrArg (X (Proc.devRef .tc main_v0)) (funext fun a => ?_)).trans (h0 0))
    (fun h k hk => (congrArg (X (Proc.devRef .tc main_v1)) (funext fun a => ?_)).trans (h1 k)))
  · match a with
    | ⟨0, _⟩ => exact Fin.ext (by have : (0 : Fin 1).val = 0 := rfl; show (e.val : ℕ) = 0; have h' : (e.val : ℕ) < 1 := h; omega)
  · match a with
    | ⟨0, _⟩ => exact Fin.ext hk

theorem l2_c_0 : StableHlo.after (hostOps0_2 (F := F)) X (Proc.devRef .tc main_c_0) (Idealize.ShloMosaic.ix0) = 1024#32 := by
  after_reads_at

theorem l3_v7 (a : Fin 3 → BitVec 32) (e : Fin 3) (h : X (Proc.devRef .tc main_v4) (ix1 e) = a e) (hc : X (Proc.devRef .tc main_c_0) Idealize.ShloMosaic.ix0 = 1024#32) : StableHlo.after (hostOps0_3 (F := F)) X (Proc.devRef .tc main_v7) (ix1 e) = Cert.Visits.fdiv (a e) := by
  after_reads_at
  simp only [id, h, hc]
  rfl

theorem l5_v14 (a : Fin 3 → BitVec 32) (e : Fin 3) (h : X (Proc.devRef .tc main_v13) (ix1 e) = a e) (hc : X (Proc.devRef .tc main_c_4) Idealize.ShloMosaic.ix0 = 1024#32) : StableHlo.after (hostOps0_5 (F := F)) X (Proc.devRef .tc main_v14) (ix1 e) = Cert.Visits.fdiv (a e) := by
  after_reads_at
  simp only [id, h, hc]
  rfl

theorem l4_v9 (a : Fin 3 → BitVec 32) (e : Fin 3) (h : X (Proc.devRef .tc main_v7) (ix1 e) = a e) : StableHlo.after (hostOps0_4 (F := F)) X (Proc.devRef .tc main_v9) (ix1 e) = IntOp.addi (a e) 1#32 := by
  after_reads_at
  exact congrArg (fun x => IntOp.addi x 1#32) h

theorem l4_v13 (a : Fin 3 → BitVec 32) (e : Fin 3) (h : X (Proc.devRef .tc main_v5) (ix1 e) = a e) : StableHlo.after (hostOps0_4 (F := F)) X (Proc.devRef .tc main_v13) (ix1 e) = IntOp.subi (IntOp.addi (a e) 1024#32) 1#32 := by
  after_reads_at
  exact congrArg (fun x => IntOp.subi (IntOp.addi x 1024#32) 1#32) h

theorem l4_c_4 : StableHlo.after (hostOps0_4 (F := F)) X (Proc.devRef .tc main_c_4) (Idealize.ShloMosaic.ix0) = 1024#32 := by
  after_reads_at

theorem l6_v15 (e : Fin 3) (a b c) (h6 : X (Proc.devRef .tc main_v6) (ix1 e) = a) (h9 : X (Proc.devRef .tc main_v9) (ix1 e) = b) (h14 : X (Proc.devRef .tc main_v14) (ix1 e) = c) : StableHlo.after (hostOps0_6 (F := F)) X (Proc.devRef .tc main_v15) (ix1 e) = Scalar.select a b c := by
  after_reads_at
  rw [h6, h9, h14]

theorem l7_v16 (e : Fin 3) (a b) (h6 : X (Proc.devRef .tc main_v15) (ix1 e) = a) (h9 : X (Proc.devRef .tc main_v7) (ix1 e) = b) : StableHlo.after (hostOps0_7 (F := F)) X (Proc.devRef .tc main_v16) (ix1 e) = IntOp.subi a b := by
  after_reads_at
  rw [h6, h9]

theorem l8_v17 (h : ∀ e : Fin 3, X (Proc.devRef .tc main_v16) (ix1 e) = Cert.Visits.cnt g e) (e : Fin 3) : StableHlo.after (hostOps0_8 (F := F)) X (Proc.devRef .tc main_v17) (ix1 e) = Cert.Visits.cum g e := by
  after_reads_at
  refine (Cert.Visits.cumsum3 _ _ rfl _ _ e).trans ?_
  fin_cases e
  · exact h 0
  · exact congrArg₂ (fun a b : BitVec 32 => a + b) (h 0) (h 1)
  · exact congrArg₂ (fun a b : BitVec 32 => a + b) (congrArg₂ (fun a b : BitVec 32 => a + b) (h 0) (h 1)) (h 2)

theorem l9_v18 (t : Fin 19) : StableHlo.after (hostOps0_9 (F := F)) X (Proc.devRef .tc main_v18) (ix1 t) = BitVec.ofNat 32 t.val := by
  after_reads_at

theorem l10_v19 (h : ∀ e : Fin 3, X (Proc.devRef .tc main_v17) (ix1 e) = Cert.Visits.cum g e) (t : Fin 19) (ht : X (Proc.devRef .tc main_v18) (ix1 t) = BitVec.ofNat 32 t.val) : StableHlo.after (hostOps0_10 (F := F)) X (Proc.devRef .tc main_v19) (ix1 t) = Cert.Visits.hit g 0 t + Cert.Visits.hit g 1 t + Cert.Visits.hit g 2 t := by
  after_reads_at
  refine (Cert.Visits.reduce3 _ _ rfl _ _ t).trans ?_
  have k : ∀ e : Fin 3, (extui 32 (cmpi .sle (broadcastInDim S3x19 ![0, 1] bcast_S3x1_S3x19_0_1 (broadcastInDim S3x1 ![0] bcast_S3_S3x1_0 (X (Proc.devRef .tc main_v17))))
      (broadcastInDim S3x19 ![0, 1] bcast_S1x19_S3x19_0_1 (broadcastInDim S1x19 ![1] bcast_S19_S1x19_1 (X (Proc.devRef .tc main_v18))))) natLt_1_32 : IVec S3x19 32) (ix2 e t)
        = Cert.Visits.hit g e t := fun e => by
    refine congrArg₂ (fun a b : BitVec 32 => (IntOp.cmpi .sle a b).setWidth 32) ((congrArg (X (Proc.devRef .tc main_v17)) (funext fun a => ?_)).trans (h e))
      ((congrArg (X (Proc.devRef .tc main_v18)) (funext fun a => ?_)).trans ht)
    · match a with
      | ⟨0, _⟩ => rfl
    · match a with
      | ⟨0, _⟩ => rfl
  exact congrArg₂ (fun a b : BitVec 32 => a + b) (congrArg₂ (fun a b : BitVec 32 => a + b) (k 0) (k 1)) (k 2)

/-- An entry of a three-entry table taken at a visit's expert. -/
theorem gth {α : Type} (x : S3.Idx → α) (w : IVec S19 32) (t : Fin 19) (b : Fin 3) (hw : w (ix1 t) = BitVec.ofNat 32 b.val) :
    Host.gather gather_S3_S19x1_S19_n_0_n_n_0_1_1 x (broadcastInDim S19x1 ![0] bcast_S19_S19x1_0 (select (cmpi .slt w (broadcastInDim S19 ![] bcast_S_S19 (constantI S_ 32 0#32)))
      (addi w (broadcastInDim S19 ![] bcast_S_S19 (constantI S_ 32 3#32))) w)) (ix1 t) = x (ix1 b) := by
  refine Cert.Visits.wrap_gather _ rfl rfl rfl rfl x _ (w (ix1 t)) t ?_ b hw
  show Scalar.select (IntOp.cmpi .slt (w _) 0#32) (IntOp.addi (w _) 3#32) (w _) = _
  rw [show (fun a : Fin S19.rank => (⟨_, _⟩ : Fin (S19.size a))) = ix1 t from funext fun a => by
    match a with
    | ⟨0, _⟩ => rfl]

theorem l11_v21 (t : Fin 19) (h19 : X (Proc.devRef .tc main_v19) (ix1 t) = Cert.Visits.hit g 0 t + Cert.Visits.hit g 1 t + Cert.Visits.hit g 2 t) : StableHlo.after (hostOps0_11 (F := F)) X (Proc.devRef .tc main_v21) (ix1 t) = Cert.Visits.vexp g t := by
  after_reads_at
  rw [h19]; rfl

theorem l11_v25 (t : Fin 19) (h18 : X (Proc.devRef .tc main_v18) (ix1 t) = BitVec.ofNat 32 t.val) (h17 : ∀ e : Fin 3, X (Proc.devRef .tc main_v17) (ix1 e) = Cert.Visits.cum g e) : StableHlo.after (hostOps0_11 (F := F)) X (Proc.devRef .tc main_v25) (ix1 t) = Cert.Visits.live g t := by
  after_reads_at
  exact congrArg₂ (IntOp.cmpi .slt) h18 (h17 2)

theorem l11_v41 (t : Fin 19) (h19 : X (Proc.devRef .tc main_v19) (ix1 t) = Cert.Visits.hit g 0 t + Cert.Visits.hit g 1 t + Cert.Visits.hit g 2 t) (h18 : X (Proc.devRef .tc main_v18) (ix1 t) = BitVec.ofNat 32 t.val) (h17 : ∀ e : Fin 3, X (Proc.devRef .tc main_v17) (ix1 e) = Cert.Visits.cum g e) (h16 : ∀ e : Fin 3, X (Proc.devRef .tc main_v16) (ix1 e) = Cert.Visits.cnt g e) : StableHlo.after (hostOps0_11 (F := F)) X (Proc.devRef .tc main_v41) (ix1 t) = Cert.Visits.kk g t := by
  after_reads_at
  have hw : (minsi (X (Proc.devRef .tc main_v19)) (broadcastInDim S19 ![] bcast_S_S19 (constantI S_ 32 2#32)) : IVec S19 32) (ix1 t) = BitVec.ofNat 32 (Cert.Visits.ve g t).val :=
    (congrArg (fun x => IntOp.minsi x 2#32) h19).trans (Cert.Visits.vexp_ofNat g t)
  rw [gth _ _ t _ hw, gth _ _ t _ hw, h18, h17, h16]; rfl

theorem l11_v49 (t : Fin 19) (h19 : X (Proc.devRef .tc main_v19) (ix1 t) = Cert.Visits.hit g 0 t + Cert.Visits.hit g 1 t + Cert.Visits.hit g 2 t) (h18 : X (Proc.devRef .tc main_v18) (ix1 t) = BitVec.ofNat 32 t.val) (h17 : ∀ e : Fin 3, X (Proc.devRef .tc main_v17) (ix1 e) = Cert.Visits.cum g e) (h16 : ∀ e : Fin 3, X (Proc.devRef .tc main_v16) (ix1 e) = Cert.Visits.cnt g e) (h7 : ∀ e : Fin 3, X (Proc.devRef .tc main_v7) (ix1 e) = Cert.Visits.b0 g e) : StableHlo.after (hostOps0_11 (F := F)) X (Proc.devRef .tc main_v49) (ix1 t) = IntOp.addi (Cert.Visits.b0 g (Cert.Visits.ve g t)) (Cert.Visits.kk g t) := by
  after_reads_at
  have hw : (minsi (X (Proc.devRef .tc main_v19)) (broadcastInDim S19 ![] bcast_S_S19 (constantI S_ 32 2#32)) : IVec S19 32) (ix1 t) = BitVec.ofNat 32 (Cert.Visits.ve g t).val :=
    (congrArg (fun x => IntOp.minsi x 2#32) h19).trans (Cert.Visits.vexp_ofNat g t)
  rw [gth _ _ t _ hw, gth _ _ t _ hw, gth _ _ t _ hw, h18, h17, h16, h7]; rfl

theorem l11_v66 (t : Fin 19) (h19 : X (Proc.devRef .tc main_v19) (ix1 t) = Cert.Visits.hit g 0 t + Cert.Visits.hit g 1 t + Cert.Visits.hit g 2 t) (h16 : ∀ e : Fin 3, X (Proc.devRef .tc main_v16) (ix1 e) = Cert.Visits.cnt g e) (h7 : ∀ e : Fin 3, X (Proc.devRef .tc main_v7) (ix1 e) = Cert.Visits.b0 g e) : StableHlo.after (hostOps0_11 (F := F)) X (Proc.devRef .tc main_v66) (ix1 t) = IntOp.subi (IntOp.addi (Cert.Visits.b0 g (Cert.Visits.ve g t)) (Cert.Visits.cnt g (Cert.Visits.ve g t))) 1#32 := by
  after_reads_at
  have hw : (minsi (X (Proc.devRef .tc main_v19)) (broadcastInDim S19 ![] bcast_S_S19 (constantI S_ 32 2#32)) : IVec S19 32) (ix1 t) = BitVec.ofNat 32 (Cert.Visits.ve g t).val :=
    (congrArg (fun x => IntOp.minsi x 2#32) h19).trans (Cert.Visits.vexp_ofNat g t)
  rw [gth _ _ t _ hw, gth _ _ t _ hw, h16, h7]

theorem l12_v67 (t : Fin 19) (a b c) (h6 : X (Proc.devRef .tc main_v25) (ix1 t) = a) (h9 : X (Proc.devRef .tc main_v49) (ix1 t) = b) (h14 : X (Proc.devRef .tc main_v66) (ix1 t) = c) : StableHlo.after (hostOps0_12 (F := F)) X (Proc.devRef .tc main_v67) (ix1 t) = Scalar.select a b c := by
  after_reads_at
  rw [h6, h9, h14]

theorem l13_c_17 : StableHlo.after (hostOps0_13 (F := F)) X (Proc.devRef .tc main_c_17) (Idealize.ShloMosaic.ix0) = 0#32 := by
  after_reads_at

theorem l13_c_18 : StableHlo.after (hostOps0_13 (F := F)) X (Proc.devRef .tc main_c_18) (Idealize.ShloMosaic.ix0) = 15#32 := by
  after_reads_at

theorem l14_v68 (t : Fin 19) (a) (h : X (Proc.devRef .tc main_v67) (ix1 t) = a) (h17 : X (Proc.devRef .tc main_c_17) Idealize.ShloMosaic.ix0 = 0#32) (h18 : X (Proc.devRef .tc main_c_18) Idealize.ShloMosaic.ix0 = 15#32) : StableHlo.after (hostOps0_14 (F := F)) X (Proc.devRef .tc main_v68) (ix1 t) = IntOp.minsi 15#32 (IntOp.maxsi 0#32 a) := by
  after_reads_at
  simp only [id, h, h17, h18]

theorem l15_v126 (t : Fin 19) (h21 : X (Proc.devRef .tc main_v21) (ix1 t) = Cert.Visits.vexp g t) (h41 : X (Proc.devRef .tc main_v41) (ix1 t) = Cert.Visits.kk g t) (h68 : X (Proc.devRef .tc main_v68) (ix1 t) = Cert.Visits.vblk g t) (h16 : ∀ e : Fin 3, X (Proc.devRef .tc main_v16) (ix1 e) = Cert.Visits.cnt g e) (h6 : ∀ e : Fin 3, X (Proc.devRef .tc main_v6) (ix1 e) = Cert.Visits.none g e) (h4 : ∀ e : Fin 3, X (Proc.devRef .tc main_v4) (ix1 e) = Cert.Visits.bnd g e.castSucc) (h5 : ∀ e : Fin 3, X (Proc.devRef .tc main_v5) (ix1 e) = Cert.Visits.bnd g e.succ) : StableHlo.after (hostOps0_15 (F := F)) X (Proc.devRef .tc main_v126) (ix1 t) = Cert.Visits.kraw g t := by
  after_reads_at
  have hw := h21.trans (Cert.Visits.vexp_ofNat g t)
  rw [gth _ _ t _ hw, gth _ _ t _ hw, gth _ _ t _ hw, gth _ _ t _ hw, h41, h68, h16, h6, h4, h5]; rfl

theorem l15_c_36 : StableHlo.after (hostOps0_15 (F := F)) X (Proc.devRef .tc main_c_36) (Idealize.ShloMosaic.ix0) = 0#32 := by
  after_reads_at

theorem l16_v127 (t : Fin 19) (a b) (h6 : X (Proc.devRef .tc main_v25) (ix1 t) = a) (h9 : X (Proc.devRef .tc main_v126) (ix1 t) = b) (h14 : X (Proc.devRef .tc main_c_36) Idealize.ShloMosaic.ix0 = 0#32) : StableHlo.after (hostOps0_16 (F := F)) X (Proc.devRef .tc main_v127) (ix1 t) = Scalar.select a b 0#32 := by
  after_reads_at
  simp only [id, h6, h9, h14]

theorem l17_v128 (t : Fin 19) (a) (h : X (Proc.devRef .tc main_v127) (ix1 t) = a) : StableHlo.after (hostOps0_17 (F := F)) X (Proc.devRef .tc main_v128) (ix1 t) = a := by
  after_reads_at
  exact h

end Stretches

/-! ## The tables -/

/-- The three group sizes as words. -/
def sizes (e : Fin 3) : BitVec 32 := X (Proc.devRef .tc main_arg4) (ix1 e)

theorem t_v0 : x1 X (Proc.devRef .tc main_v0) (ix1 0) = 0#32 := by
  show StableHlo.after _ _ _ _ = _
  exact l0_v0 (x0 X)

theorem t_v1 (e : Fin 3) : x2 X (Proc.devRef .tc main_v1) (ix1 e) = Cert.Visits.bnd (sizes X) e.succ := by
  show StableHlo.after _ _ _ _ = _
  exact l1_v1 (x1 X) _ (fun e => by rw [ps0 X (r := main_arg4) (by decide)]; rfl) e

theorem t_v2 (j : Fin 4) : x3 X (Proc.devRef .tc main_v2) (ix1 j) = Cert.Visits.bnd (sizes X) j := by
  show StableHlo.after _ _ _ _ = _
  exact l2_v2 (x2 X) _ (fun e => by obtain rfl : e = 0 := Subsingleton.elim _ _; rw [ps1 X (r := main_v0) (by decide)]; exact t_v0 X) (t_v1 X) j

theorem t_v4 (e : Fin 3) : x3 X (Proc.devRef .tc main_v4) (ix1 e) = Cert.Visits.bnd (sizes X) e.castSucc := by
  show StableHlo.after _ _ _ _ = _
  exact l2_v4 (x2 X) _ (fun e => by obtain rfl : e = 0 := Subsingleton.elim _ _; rw [ps1 X (r := main_v0) (by decide)]; exact t_v0 X) (t_v1 X) e

theorem t_v5 (e : Fin 3) : x3 X (Proc.devRef .tc main_v5) (ix1 e) = Cert.Visits.bnd (sizes X) e.succ := by
  show StableHlo.after _ _ _ _ = _
  exact l2_v5 (x2 X) _ (fun e => by obtain rfl : e = 0 := Subsingleton.elim _ _; rw [ps1 X (r := main_v0) (by decide)]; exact t_v0 X) (t_v1 X) e

theorem t_v6 (e : Fin 3) : x3 X (Proc.devRef .tc main_v6) (ix1 e) = Cert.Visits.none (sizes X) e := by
  show StableHlo.after _ _ _ _ = _
  exact l2_v6 (x2 X) _ (fun e => by obtain rfl : e = 0 := Subsingleton.elim _ _; rw [ps1 X (r := main_v0) (by decide)]; exact t_v0 X) (t_v1 X) e

theorem t_c_0 : x3 X (Proc.devRef .tc main_c_0) (Idealize.ShloMosaic.ix0) = 1024#32 := by
  show StableHlo.after _ _ _ _ = _
  exact l2_c_0 (x2 X)

theorem t_v7 (e : Fin 3) : x4 X (Proc.devRef .tc main_v7) (ix1 e) = Cert.Visits.b0 (sizes X) e := by
  show StableHlo.after _ _ _ _ = _
  exact l3_v7 (x3 X) (fun e => Cert.Visits.bnd (sizes X) e.castSucc) e (t_v4 X e) (t_c_0 X)

theorem t_v9 (e : Fin 3) : x5 X (Proc.devRef .tc main_v9) (ix1 e) = IntOp.addi (Cert.Visits.b0 (sizes X) e) 1#32 := by
  show StableHlo.after _ _ _ _ = _
  exact l4_v9 (x4 X) (fun e => Cert.Visits.b0 (sizes X) e) e (t_v7 X e)

theorem t_v13 (e : Fin 3) : x5 X (Proc.devRef .tc main_v13) (ix1 e) = IntOp.subi (IntOp.addi (Cert.Visits.bnd (sizes X) e.succ) 1024#32) 1#32 := by
  show StableHlo.after _ _ _ _ = _
  exact l4_v13 (x4 X) (fun e => Cert.Visits.bnd (sizes X) e.succ) e (by rw [ps3 X (r := main_v5) (by decide)]; exact t_v5 X e)

theorem t_c_4 : x5 X (Proc.devRef .tc main_c_4) (Idealize.ShloMosaic.ix0) = 1024#32 := by
  show StableHlo.after _ _ _ _ = _
  exact l4_c_4 (x4 X)

theorem t_v14 (e : Fin 3) : x6 X (Proc.devRef .tc main_v14) (ix1 e) = Cert.Visits.fdiv (IntOp.subi (IntOp.addi (Cert.Visits.bnd (sizes X) e.succ) 1024#32) 1#32) := by
  show StableHlo.after _ _ _ _ = _
  exact l5_v14 (x5 X) (fun e => IntOp.subi (IntOp.addi (Cert.Visits.bnd (sizes X) e.succ) 1024#32) 1#32) e (t_v13 X e) (t_c_4 X)

theorem t_v15 (e : Fin 3) : x7 X (Proc.devRef .tc main_v15) (ix1 e) = Cert.Visits.b1 (sizes X) e := by
  show StableHlo.after _ _ _ _ = _
  exact l6_v15 (x6 X) e _ _ _ (by rw [ps5 X (r := main_v6) (by decide), ps4 X (r := main_v6) (by decide), ps3 X (r := main_v6) (by decide)]; exact t_v6 X e) (by rw [ps5 X (r := main_v9) (by decide)]; exact t_v9 X e) (t_v14 X e)

theorem t_v16 (e : Fin 3) : x8 X (Proc.devRef .tc main_v16) (ix1 e) = Cert.Visits.cnt (sizes X) e := by
  show StableHlo.after _ _ _ _ = _
  exact l7_v16 (x7 X) e _ _ (t_v15 X e) (by rw [ps6 X (r := main_v7) (by decide), ps5 X (r := main_v7) (by decide), ps4 X (r := main_v7) (by decide)]; exact t_v7 X e)

theorem t_v17 (e : Fin 3) : x9 X (Proc.devRef .tc main_v17) (ix1 e) = Cert.Visits.cum (sizes X) e := by
  show StableHlo.after _ _ _ _ = _
  exact l8_v17 (x8 X) _ (t_v16 X) e

theorem t_v18 (t : Fin 19) : x10 X (Proc.devRef .tc main_v18) (ix1 t) = BitVec.ofNat 32 t.val := by
  show StableHlo.after _ _ _ _ = _
  exact l9_v18 (x9 X) t

theorem t_v19 (t : Fin 19) : x11 X (Proc.devRef .tc main_v19) (ix1 t) = Cert.Visits.hit (sizes X) 0 t + Cert.Visits.hit (sizes X) 1 t + Cert.Visits.hit (sizes X) 2 t := by
  show StableHlo.after _ _ _ _ = _
  exact l10_v19 (x10 X) _ (fun e => (by rw [ps9 X (r := main_v17) (by decide)]; exact t_v17 X e)) t (t_v18 X t)

theorem t_v21 (t : Fin 19) : x12 X (Proc.devRef .tc main_v21) (ix1 t) = Cert.Visits.vexp (sizes X) t := by
  show StableHlo.after _ _ _ _ = _
  exact l11_v21 (x11 X) _ t (t_v19 X t)

theorem t_v25 (t : Fin 19) : x12 X (Proc.devRef .tc main_v25) (ix1 t) = Cert.Visits.live (sizes X) t := by
  show StableHlo.after _ _ _ _ = _
  exact l11_v25 (x11 X) _ t (by rw [ps10 X (r := main_v18) (by decide)]; exact t_v18 X t) (fun e => (by rw [ps10 X (r := main_v17) (by decide), ps9 X (r := main_v17) (by decide)]; exact t_v17 X e))

theorem t_v41 (t : Fin 19) : x12 X (Proc.devRef .tc main_v41) (ix1 t) = Cert.Visits.kk (sizes X) t := by
  show StableHlo.after _ _ _ _ = _
  exact l11_v41 (x11 X) _ t (t_v19 X t) (by rw [ps10 X (r := main_v18) (by decide)]; exact t_v18 X t) (fun e => (by rw [ps10 X (r := main_v17) (by decide), ps9 X (r := main_v17) (by decide)]; exact t_v17 X e)) (fun e => (by rw [ps10 X (r := main_v16) (by decide), ps9 X (r := main_v16) (by decide), ps8 X (r := main_v16) (by decide)]; exact t_v16 X e))

theorem t_v49 (t : Fin 19) : x12 X (Proc.devRef .tc main_v49) (ix1 t) = IntOp.addi (Cert.Visits.b0 (sizes X) (Cert.Visits.ve (sizes X) t)) (Cert.Visits.kk (sizes X) t) := by
  show StableHlo.after _ _ _ _ = _
  exact l11_v49 (x11 X) _ t (t_v19 X t) (by rw [ps10 X (r := main_v18) (by decide)]; exact t_v18 X t) (fun e => (by rw [ps10 X (r := main_v17) (by decide), ps9 X (r := main_v17) (by decide)]; exact t_v17 X e)) (fun e => (by rw [ps10 X (r := main_v16) (by decide), ps9 X (r := main_v16) (by decide), ps8 X (r := main_v16) (by decide)]; exact t_v16 X e)) (fun e => (by rw [ps10 X (r := main_v7) (by decide), ps9 X (r := main_v7) (by decide), ps8 X (r := main_v7) (by decide), ps7 X (r := main_v7) (by decide), ps6 X (r := main_v7) (by decide), ps5 X (r := main_v7) (by decide), ps4 X (r := main_v7) (by decide)]; exact t_v7 X e))

theorem t_v66 (t : Fin 19) : x12 X (Proc.devRef .tc main_v66) (ix1 t) = IntOp.subi (IntOp.addi (Cert.Visits.b0 (sizes X) (Cert.Visits.ve (sizes X) t)) (Cert.Visits.cnt (sizes X) (Cert.Visits.ve (sizes X) t))) 1#32 := by
  show StableHlo.after _ _ _ _ = _
  exact l11_v66 (x11 X) _ t (t_v19 X t) (fun e => (by rw [ps10 X (r := main_v16) (by decide), ps9 X (r := main_v16) (by decide), ps8 X (r := main_v16) (by decide)]; exact t_v16 X e)) (fun e => (by rw [ps10 X (r := main_v7) (by decide), ps9 X (r := main_v7) (by decide), ps8 X (r := main_v7) (by decide), ps7 X (r := main_v7) (by decide), ps6 X (r := main_v7) (by decide), ps5 X (r := main_v7) (by decide), ps4 X (r := main_v7) (by decide)]; exact t_v7 X e))

theorem t_v67 (t : Fin 19) : x13 X (Proc.devRef .tc main_v67) (ix1 t) = Cert.Visits.vraw (sizes X) t := by
  show StableHlo.after _ _ _ _ = _
  exact l12_v67 (x12 X) t _ _ _ (t_v25 X t) (t_v49 X t) (t_v66 X t)

theorem t_c_17 : x14 X (Proc.devRef .tc main_c_17) (Idealize.ShloMosaic.ix0) = 0#32 := by
  show StableHlo.after _ _ _ _ = _
  exact l13_c_17 (x13 X)

theorem t_c_18 : x14 X (Proc.devRef .tc main_c_18) (Idealize.ShloMosaic.ix0) = 15#32 := by
  show StableHlo.after _ _ _ _ = _
  exact l13_c_18 (x13 X)

theorem t_v68 (t : Fin 19) : x15 X (Proc.devRef .tc main_v68) (ix1 t) = Cert.Visits.vblk (sizes X) t := by
  show StableHlo.after _ _ _ _ = _
  exact l14_v68 (x14 X) t _ (by rw [ps13 X (r := main_v67) (by decide)]; exact t_v67 X t) (t_c_17 X) (t_c_18 X)

theorem t_v126 (t : Fin 19) : x16 X (Proc.devRef .tc main_v126) (ix1 t) = Cert.Visits.kraw (sizes X) t := by
  show StableHlo.after _ _ _ _ = _
  exact l15_v126 (x15 X) _ t (by rw [ps14 X (r := main_v21) (by decide), ps13 X (r := main_v21) (by decide), ps12 X (r := main_v21) (by decide)]; exact t_v21 X t) (by rw [ps14 X (r := main_v41) (by decide), ps13 X (r := main_v41) (by decide), ps12 X (r := main_v41) (by decide)]; exact t_v41 X t) (t_v68 X t) (fun e => (by rw [ps14 X (r := main_v16) (by decide), ps13 X (r := main_v16) (by decide), ps12 X (r := main_v16) (by decide), ps11 X (r := main_v16) (by decide), ps10 X (r := main_v16) (by decide), ps9 X (r := main_v16) (by decide), ps8 X (r := main_v16) (by decide)]; exact t_v16 X e)) (fun e => (by rw [ps14 X (r := main_v6) (by decide), ps13 X (r := main_v6) (by decide), ps12 X (r := main_v6) (by decide), ps11 X (r := main_v6) (by decide), ps10 X (r := main_v6) (by decide), ps9 X (r := main_v6) (by decide), ps8 X (r := main_v6) (by decide), ps7 X (r := main_v6) (by decide), ps6 X (r := main_v6) (by decide), ps5 X (r := main_v6) (by decide), ps4 X (r := main_v6) (by decide), ps3 X (r := main_v6) (by decide)]; exact t_v6 X e)) (fun e => (by rw [ps14 X (r := main_v4) (by decide), ps13 X (r := main_v4) (by decide), ps12 X (r := main_v4) (by decide), ps11 X (r := main_v4) (by decide), ps10 X (r := main_v4) (by decide), ps9 X (r := main_v4) (by decide), ps8 X (r := main_v4) (by decide), ps7 X (r := main_v4) (by decide), ps6 X (r := main_v4) (by decide), ps5 X (r := main_v4) (by decide), ps4 X (r := main_v4) (by decide), ps3 X (r := main_v4) (by decide)]; exact t_v4 X e)) (fun e => (by rw [ps14 X (r := main_v5) (by decide), ps13 X (r := main_v5) (by decide), ps12 X (r := main_v5) (by decide), ps11 X (r := main_v5) (by decide), ps10 X (r := main_v5) (by decide), ps9 X (r := main_v5) (by decide), ps8 X (r := main_v5) (by decide), ps7 X (r := main_v5) (by decide), ps6 X (r := main_v5) (by decide), ps5 X (r := main_v5) (by decide), ps4 X (r := main_v5) (by decide), ps3 X (r := main_v5) (by decide)]; exact t_v5 X e))

theorem t_c_36 : x16 X (Proc.devRef .tc main_c_36) (Idealize.ShloMosaic.ix0) = 0#32 := by
  show StableHlo.after _ _ _ _ = _
  exact l15_c_36 (x15 X)

theorem t_v127 (t : Fin 19) : x17 X (Proc.devRef .tc main_v127) (ix1 t) = Cert.Visits.vkind (sizes X) t := by
  show StableHlo.after _ _ _ _ = _
  exact l16_v127 (x16 X) t _ _ (by rw [ps15 X (r := main_v25) (by decide), ps14 X (r := main_v25) (by decide), ps13 X (r := main_v25) (by decide), ps12 X (r := main_v25) (by decide)]; exact t_v25 X t) (t_v126 X t) (t_c_36 X)

theorem t_v128 (t : Fin 19) : x18 X (Proc.devRef .tc main_v128) (ix1 t) = Cert.Visits.vkind (sizes X) t := by
  show StableHlo.after _ _ _ _ = _
  exact l17_v128 (x17 X) t _ (t_v127 X t)

/-- What the four prefetched tables hold, and that the host changes none of the arguments. -/
theorem tab_bnd (j : Fin 4) : x18 X (Proc.devRef .tc main_v2) (ix1 j) = Cert.Visits.bnd (sizes X) j := by
  rw [ps17 X (r := main_v2) (by decide), ps16 X (r := main_v2) (by decide), ps15 X (r := main_v2) (by decide), ps14 X (r := main_v2) (by decide), ps13 X (r := main_v2) (by decide), ps12 X (r := main_v2) (by decide), ps11 X (r := main_v2) (by decide), ps10 X (r := main_v2) (by decide), ps9 X (r := main_v2) (by decide), ps8 X (r := main_v2) (by decide), ps7 X (r := main_v2) (by decide), ps6 X (r := main_v2) (by decide), ps5 X (r := main_v2) (by decide), ps4 X (r := main_v2) (by decide), ps3 X (r := main_v2) (by decide)]; exact t_v2 X j
theorem tab_exp (t : Fin 19) : x18 X (Proc.devRef .tc main_v21) (ix1 t) = Cert.Visits.vexp (sizes X) t := by
  rw [ps17 X (r := main_v21) (by decide), ps16 X (r := main_v21) (by decide), ps15 X (r := main_v21) (by decide), ps14 X (r := main_v21) (by decide), ps13 X (r := main_v21) (by decide), ps12 X (r := main_v21) (by decide)]; exact t_v21 X t
theorem tab_blk (t : Fin 19) : x18 X (Proc.devRef .tc main_v68) (ix1 t) = Cert.Visits.vblk (sizes X) t := by
  rw [ps17 X (r := main_v68) (by decide), ps16 X (r := main_v68) (by decide), ps15 X (r := main_v68) (by decide)]; exact t_v68 X t
theorem tab_kind (t : Fin 19) : x18 X (Proc.devRef .tc main_v128) (ix1 t) = Cert.Visits.vkind (sizes X) t := t_v128 X t

theorem tab_scale : x18 X (Proc.devRef .tc main_v3) = (mulf (X (Proc.devRef .tc main_arg1)) (X (Proc.devRef .tc main_arg3)) : (⟨S3, .f32⟩ : BufTy).Contents (Elt F)) := by
  rw [ps17 X (r := main_v3) (by decide), ps16 X (r := main_v3) (by decide), ps15 X (r := main_v3) (by decide), ps14 X (r := main_v3) (by decide), ps13 X (r := main_v3) (by decide), ps12 X (r := main_v3) (by decide), ps11 X (r := main_v3) (by decide), ps10 X (r := main_v3) (by decide), ps9 X (r := main_v3) (by decide), ps8 X (r := main_v3) (by decide), ps7 X (r := main_v3) (by decide), ps6 X (r := main_v3) (by decide), ps5 X (r := main_v3) (by decide), ps4 X (r := main_v3) (by decide), ps3 X (r := main_v3) (by decide)]
  funext j
  show StableHlo.after (hostOps0_2 (F := F)) (x2 X) (Proc.devRef .tc main_v3) j = _
  after_reads_at
  rw [ps1 X (r := main_arg1) (by decide), ps0 X (r := main_arg1) (by decide), ps1 X (r := main_arg3) (by decide), ps0 X (r := main_arg3) (by decide)]
  rfl

theorem arg_0 : x18 X (Proc.devRef .tc main_arg0) = X (Proc.devRef .tc main_arg0) := by
  rw [ps17 X (r := main_arg0) (by decide), ps16 X (r := main_arg0) (by decide), ps15 X (r := main_arg0) (by decide), ps14 X (r := main_arg0) (by decide), ps13 X (r := main_arg0) (by decide), ps12 X (r := main_arg0) (by decide), ps11 X (r := main_arg0) (by decide), ps10 X (r := main_arg0) (by decide), ps9 X (r := main_arg0) (by decide), ps8 X (r := main_arg0) (by decide), ps7 X (r := main_arg0) (by decide), ps6 X (r := main_arg0) (by decide), ps5 X (r := main_arg0) (by decide), ps4 X (r := main_arg0) (by decide), ps3 X (r := main_arg0) (by decide), ps2 X (r := main_arg0) (by decide), ps1 X (r := main_arg0) (by decide), ps0 X (r := main_arg0) (by decide)]; rfl

theorem arg_1 : x18 X (Proc.devRef .tc main_arg1) = X (Proc.devRef .tc main_arg1) := by
  rw [ps17 X (r := main_arg1) (by decide), ps16 X (r := main_arg1) (by decide), ps15 X (r := main_arg1) (by decide), ps14 X (r := main_arg1) (by decide), ps13 X (r := main_arg1) (by decide), ps12 X (r := main_arg1) (by decide), ps11 X (r := main_arg1) (by decide), ps10 X (r := main_arg1) (by decide), ps9 X (r := main_arg1) (by decide), ps8 X (r := main_arg1) (by decide), ps7 X (r := main_arg1) (by decide), ps6 X (r := main_arg1) (by decide), ps5 X (r := main_arg1) (by decide), ps4 X (r := main_arg1) (by decide), ps3 X (r := main_arg1) (by decide), ps2 X (r := main_arg1) (by decide), ps1 X (r := main_arg1) (by decide), ps0 X (r := main_arg1) (by decide)]; rfl

theorem arg_2 : x18 X (Proc.devRef .tc main_arg2) = X (Proc.devRef .tc main_arg2) := by
  rw [ps17 X (r := main_arg2) (by decide), ps16 X (r := main_arg2) (by decide), ps15 X (r := main_arg2) (by decide), ps14 X (r := main_arg2) (by decide), ps13 X (r := main_arg2) (by decide), ps12 X (r := main_arg2) (by decide), ps11 X (r := main_arg2) (by decide), ps10 X (r := main_arg2) (by decide), ps9 X (r := main_arg2) (by decide), ps8 X (r := main_arg2) (by decide), ps7 X (r := main_arg2) (by decide), ps6 X (r := main_arg2) (by decide), ps5 X (r := main_arg2) (by decide), ps4 X (r := main_arg2) (by decide), ps3 X (r := main_arg2) (by decide), ps2 X (r := main_arg2) (by decide), ps1 X (r := main_arg2) (by decide), ps0 X (r := main_arg2) (by decide)]; rfl

theorem arg_3 : x18 X (Proc.devRef .tc main_arg3) = X (Proc.devRef .tc main_arg3) := by
  rw [ps17 X (r := main_arg3) (by decide), ps16 X (r := main_arg3) (by decide), ps15 X (r := main_arg3) (by decide), ps14 X (r := main_arg3) (by decide), ps13 X (r := main_arg3) (by decide), ps12 X (r := main_arg3) (by decide), ps11 X (r := main_arg3) (by decide), ps10 X (r := main_arg3) (by decide), ps9 X (r := main_arg3) (by decide), ps8 X (r := main_arg3) (by decide), ps7 X (r := main_arg3) (by decide), ps6 X (r := main_arg3) (by decide), ps5 X (r := main_arg3) (by decide), ps4 X (r := main_arg3) (by decide), ps3 X (r := main_arg3) (by decide), ps2 X (r := main_arg3) (by decide), ps1 X (r := main_arg3) (by decide), ps0 X (r := main_arg3) (by decide)]; rfl

theorem arg_4 : x18 X (Proc.devRef .tc main_arg4) = X (Proc.devRef .tc main_arg4) := by
  rw [ps17 X (r := main_arg4) (by decide), ps16 X (r := main_arg4) (by decide), ps15 X (r := main_arg4) (by decide), ps14 X (r := main_arg4) (by decide), ps13 X (r := main_arg4) (by decide), ps12 X (r := main_arg4) (by decide), ps11 X (r := main_arg4) (by decide), ps10 X (r := main_arg4) (by decide), ps9 X (r := main_arg4) (by decide), ps8 X (r := main_arg4) (by decide), ps7 X (r := main_arg4) (by decide), ps6 X (r := main_arg4) (by decide), ps5 X (r := main_arg4) (by decide), ps4 X (r := main_arg4) (by decide), ps3 X (r := main_arg4) (by decide), ps2 X (r := main_arg4) (by decide), ps1 X (r := main_arg4) (by decide), ps0 X (r := main_arg4) (by decide)]; rfl

end Cert.KernelIdeal.Hand
-- ==== Proof.KernelIdeal.Run.lean ====
/-
  The run of the program: the tables the host leaves are ones the call can run at; at every visit the body turns what it found in the output block into
  what the four steps leave (Body.lean); the launch, and what is known after it.
-/
module
public import proofs.«01_k».proof.Proof.KernelIdeal.Body
public import proofs.«01_k».proof.Proof.KernelIdeal.Tables
public import Idealize.ShloMosaic.Lib.Pipeline.FrameBody
public import Idealize.ShloMosaic.Lib.Affine
@[expose] public section
noncomputable section
namespace Cert.KernelIdeal.Hand
open Cert.KernelIdeal Cert.KernelIdeal.Gen
open Idealize.ShloMosaic hiding ix1 ix2
open Idealize.ShloMosaic.TcCoe Idealize.ShloMosaic.ValueIdx Idealize.ShloMosaic.Pipeline
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What the host operations leave on a core. -/
def V (c : Dev nD) (b : Ref sig .tc) : Buf (Elt F) ((c.tc : Thread nD τ).loc b) := x18 (fun b => m (c, b)) (Proc.devRef .tc b)
/-- The tables as the call finds them. -/
def tabs : pre0.Contents (Elt F) := fun k => V m 0 (pre0.ref k)

/-- The bounds, the experts, the row blocks and the kinds, as the call finds them. -/
def T0 : S4.Idx → Elt F .i32 := tabs m 0
def T1 : S19.Idx → Elt F .i32 := tabs m 1
def T2 : S19.Idx → Elt F .i32 := tabs m 2
def T3 : S19.Idx → Elt F .i32 := tabs m 3
/-- The group sizes. -/
abbrev sz : Fin 3 → BitVec 32 := sizes (fun b => m (0, b))

/-! ## The tables are ones the call can run at -/

/-- A visit's number is its third grid coordinate. -/
theorem wd_eq (f : S19.Idx → Elt F .i32) (i : grid0.Coords) : wd f i = f (ix1 (i 2)) := by
  refine congrArg f (funext fun a => Fin.ext ?_)
  match a with
  | ⟨0, _⟩ =>
    have h := (i 2).isLt
    have h' : (i 2).val < 19 := h
    show (BitVec.ofNat 32 (i 2).val).toNat = (i 2).val
    rw [BitVec.toNat_ofNat]; omega
theorem tabs_exp (t : Fin 19) : T1 m (ix1 t) = Cert.Visits.vexp (sz m) t := tab_exp (fun b => m (0, b)) t
theorem tabs_blk (t : Fin 19) : T2 m (ix1 t) = Cert.Visits.vblk (sz m) t := tab_blk (fun b => m (0, b)) t
theorem tabs_kind (t : Fin 19) : T3 m (ix1 t) = Cert.Visits.vkind (sz m) t := tab_kind (fun b => m (0, b)) t
theorem tabs_bnd (t : Fin 4) : T0 m (ix1 t) = Cert.Visits.bnd (sz m) t := tab_bnd (fun b => m (0, b)) t
theorem wd_exp_lt (i : grid0.Coords) : (wd (T1 m) i).toNat < 3 := by
  rw [wd_eq]; erw [tabs_exp]; exact Cert.Visits.vexp_lt _ _
theorem wd_blk_lt (i : grid0.Coords) : (wd (T2 m) i).toNat < 16 := by
  rw [wd_eq]; erw [tabs_blk]; exact Cert.Visits.vblk_lt _ _

theorem tr1 (pf : pre0.Contents (Elt F)) (i : grid0.Coords) : cc0_transform_1 k0_off1_inb numel1_S1 pf i = ![(wd (pf 2) i).toNat, (i 0).val] := by
  have h : (i 0).val < 2 := (i 0).isLt
  unfold cc0_transform_1
  funext a
  match a with
  | ⟨0, _⟩ => exact congrArg BitVec.toNat (congrArg (pf 2) (funext fun a => Fin.ext (Nat.add_zero _)))
  | ⟨1, _⟩ => show (BitVec.ofNat 32 (i 0).val).toNat = (i 0).val; rw [BitVec.toNat_ofNat]; omega
theorem tr2 (pf : pre0.Contents (Elt F)) (i : grid0.Coords) : cc0_transform_2 k0_off1_inb numel1_S1 pf i = ![(wd (pf 2) i).toNat, (i 1).val] := by
  have h : (i 1).val < 4 := (i 1).isLt
  unfold cc0_transform_2
  funext a
  match a with
  | ⟨0, _⟩ => exact congrArg BitVec.toNat (congrArg (pf 2) (funext fun a => Fin.ext (Nat.add_zero _)))
  | ⟨1, _⟩ => show (BitVec.ofNat 32 (i 1).val).toNat = (i 1).val; rw [BitVec.toNat_ofNat]; omega
theorem tr3 (pf : pre0.Contents (Elt F)) (i : grid0.Coords) :
    cc0_transform_3 k0_off1_inb numel1_S1 pf i = ![(wd (pf 1) i).toNat, (i 0).val, (i 1).val] := by
  have h : (i 1).val < 4 := (i 1).isLt
  have h' : (i 0).val < 2 := (i 0).isLt
  unfold cc0_transform_3
  funext a
  match a with
  | ⟨0, _⟩ => exact congrArg BitVec.toNat (congrArg (pf 1) (funext fun a => Fin.ext (Nat.add_zero _)))
  | ⟨1, _⟩ => show (BitVec.ofNat 32 (i 0).val).toNat = (i 0).val; rw [BitVec.toNat_ofNat]; omega
  | ⟨2, _⟩ => show (BitVec.ofNat 32 (i 1).val).toNat = (i 1).val; rw [BitVec.toNat_ofNat]; omega

theorem tabs_ok : ok0 (tabs m) := by
  refine ⟨fun i => ⟨fun a => ?_, .inr (Affine.block_words_dvd (by decide) (by decide))⟩, fun i => ⟨fun a => ?_, .inr (Affine.block_words_dvd (by decide) (by decide))⟩,
    fun i => ⟨fun a => ?_, .inl rfl⟩⟩
  · have h : (wd (tabs m 2) i).toNat < 16 := wd_blk_lt m i
    have h' : (i 0).val < 2 := (i 0).isLt
    rw [tr1]
    match a with
    | ⟨0, _⟩ => show ((wd (tabs m 2) i).toNat + 1) * 1024 ≤ 16384; omega
    | ⟨1, _⟩ => show ((i 0).val + 1) * 2560 ≤ 5120; omega
  · have h : (wd (tabs m 2) i).toNat < 16 := wd_blk_lt m i
    have h' : (i 1).val < 4 := (i 1).isLt
    rw [tr2]
    match a with
    | ⟨0, _⟩ => show ((wd (tabs m 2) i).toNat + 1) * 1024 ≤ 16384; omega
    | ⟨1, _⟩ => show ((i 1).val + 1) * 2048 ≤ 8192; omega
  · have h : (wd (tabs m 1) i).toNat < 3 := wd_exp_lt m i
    have h' : (i 0).val < 2 := (i 0).isLt
    have h'' : (i 1).val < 4 := (i 1).isLt
    rw [tr3]
    match a with
    | ⟨0, _⟩ => show ((wd (tabs m 1) i).toNat + 1) * 1 ≤ 3; omega
    | ⟨1, _⟩ => show ((i 0).val + 1) * 2560 ≤ 5120; omega
    | ⟨2, _⟩ => show ((i 1).val + 1) * 2048 ≤ 8192; omega

/-- The tables as contents the call is admitted at. -/
def adm : (pcfg0 (F := F)).Adm := ⟨tabs m, tabs_ok m⟩

theorem chk (i : grid0.Coords) : k0_chk1 (wd (T1 m) i) (wd (T3 m) i) := by
  have h := wd_exp_lt m i
  generalize wd (T1 m) i = w at h
  refine ⟨fun _ a => ?_, fun _ a => ?_, fun _ a => ?_⟩
  · match a with
    | ⟨0, _⟩ => show w.toNat + 1 ≤ 4; omega
  · match a with
    | ⟨0, _⟩ =>
      show (w + 1#32).toNat + 1 ≤ 4
      rw [BitVec.toNat_add]; show (w.toNat + 1) % 2 ^ 32 + 1 ≤ 4; omega
  · match a with
    | ⟨0, _⟩ => show w.toNat + 1 ≤ 3; omega

/-! ## The body at every visit -/

/-- What an input's block holds at a visit, if it was as given before it was brought in. -/
def in0 (c : Dev nD) (t : Fin (cfg0 (adm m)).N) (d : S3.Idx → Elt F .f32) : S3.Idx → Elt F .f32 :=
  ((cfg0 (adm m)).win 0).fill (grid0.coords t) d (((cfg0 (adm m)).win 0 |>.blk t).view.read (Elt F) (V m c (arrRef (cfg0 (adm m)).spec 0)))
def in1 (c : Dev nD) (t : Fin (cfg0 (adm m)).N) (d : S1024x2560.Idx → Elt F .fp8e4m3) : S1024x2560.Idx → Elt F .fp8e4m3 :=
  ((cfg0 (adm m)).win 1).fill (grid0.coords t) d (((cfg0 (adm m)).win 1 |>.blk t).view.read (Elt F) (V m c (arrRef (cfg0 (adm m)).spec 1)))
def in2 (c : Dev nD) (t : Fin (cfg0 (adm m)).N) (d : S1024x2048.Idx → Elt F .fp8e5m2) : S1024x2048.Idx → Elt F .fp8e5m2 :=
  ((cfg0 (adm m)).win 2).fill (grid0.coords t) d (((cfg0 (adm m)).win 2 |>.blk t).view.read (Elt F) (V m c (arrRef (cfg0 (adm m)).spec 2)))
/-- The output block after a visit, from what was found there. -/
def Aft (c : Dev nD) (t : Fin (cfg0 (adm m)).N) (Y X : S1x2560x2048.Idx → Elt F .f32) : Prop :=
  ∃ d0 d1 d2, X = bodyOut (grid0.coords t) (T0 m) (T1 m) (T2 m) (T3 m) (in0 m c t d0) (in1 m c t d1) (in2 m c t d2) Y

/-- What is known at every visit: an input block holds its part of its array, whatever was there; the output block goes from what was found there to what
    the visit's steps leave. -/
def rdat (c : Dev nD) : RDat τ (Elt F) Unit ℕ (UR sig nD τ) ℕ (cfg0 (adm m)) c where
  A w := V m c (arrRef (cfg0 (adm m)).spec w)
  after := fun
    | 0, _, Y, X => X = Y
    | 1, _, Y, X => X = Y
    | 2, _, Y, X => X = Y
    | 3, t, Y, X => Aft m c t Y X
    | ⟨_ + 4, h⟩, _, _, _ => absurd h (Nat.not_lt.2 (Nat.le_add_left _ _))
  Φ _ := iprop(ΦA (cfg0 (adm m)).spec c ∗ ΦT pre0 (tabs m) c)
  q _ := fullShare
  owed _ := 0

theorem phiT_eq (v : pre0.Contents (Elt F)) (c : Dev nD) : (ΦT pre0 v c : sProp 𝕄)
    = iprop(tbPt c tM0 (v 0) ∗ tbPt c tM1 (v 1) ∗ tbPt c tM2 (v 2) ∗ tbPt c tM3 (v 3)) := by
  unfold ΦT prefHeld
  rw [show (Finset.univ : Finset (Fin 4)) = insert 0 (insert 1 (insert 2 {3})) from by decide, bigSep_insert (by decide), bigSep_insert (by decide),
    bigSep_insert (by decide), bigSep_singleton]
  rfl

theorem defs₀_row (t : Fin (cfg0 (adm m)).N) : defs₀ (F := F) .tc (cfg0 (adm m)).body ((cfg0 (adm m)).bodyArgs t ((cfg0 (adm m)).slots t))
    = cc0_tgmm (grid0.coords t) tM0 (Memref.isWhole_whole _) tM1 (Memref.isWhole_whole _) tM2 (Memref.isWhole_whole _) tM3 (Memref.isWhole_whole _)
      (spec0_0.stage ((cfg0 (adm m)).slots t 0)) (hstage0_0 (((cfg0 (adm m)).slots t 0).cast nbuf0_0))
      (spec0_1.stage ((cfg0 (adm m)).slots t 1)) (hstage0_1 (((cfg0 (adm m)).slots t 1).cast nbuf0_1))
      (spec0_2.stage ((cfg0 (adm m)).slots t 2)) (hstage0_2 (((cfg0 (adm m)).slots t 2).cast nbuf0_2))
      (spec0_3.stage ((cfg0 (adm m)).slots t 3)) (hstage0_3 (((cfg0 (adm m)).slots t 3).cast nbuf0_3)) := by
  unfold defs₀; rw [Defs.onTc_tc]

theorem aft_of (c : Dev nD) (t : Fin (cfg0 (adm m)).N) (Y X : S1x2560x2048.Idx → Elt F .f32) (h : (rdat m c).after 3 t Y X) : Aft m c t Y X := h

theorem found0 (c : Dev nD) (t : Fin (cfg0 (adm m)).N) (Y) (h : (rdat m c).Finds 0 t Y) : ∃ d, Y = in0 m c t d :=
  RDat.finds_in_eq_fetched (rdat m c) 0 rfl (fun _ _ _ => rfl) (fun _ _ _ h => h) t Y h
theorem found1 (c : Dev nD) (t : Fin (cfg0 (adm m)).N) (Y) (h : (rdat m c).Finds 1 t Y) : ∃ d, Y = in1 m c t d :=
  RDat.finds_in_eq_fetched (rdat m c) 1 rfl (fun _ _ _ => rfl) (fun _ _ _ h => h) t Y h
theorem found2 (c : Dev nD) (t : Fin (cfg0 (adm m)).N) (Y) (h : (rdat m c).Finds 2 t Y) : ∃ d, Y = in2 m c t d :=
  RDat.finds_in_eq_fetched (rdat m c) 2 rfl (fun _ _ _ => rfl) (fun _ _ _ h => h) t Y h

/-- The body at one visit. -/
theorem sound_body (c : Dev nD) (t : Fin (cfg0 (adm m)).N) (Y : (w : Fin (cfg0 (adm m)).W) → ((cfg0 (adm m)).win w).block.Idx → Elt F ((cfg0 (adm m)).win w).elt) (hY : ∀ w, (rdat m c).Finds w t (Y w)) :
    iprop((ΦA (cfg0 (adm m)).spec c ∗ ΦT pre0 (tabs m) c)
      ∗ (rdat m c).owesAt () t.castSucc
      ∗ (owns c (spec0_0.stage ((cfg0 (adm m)).slots t 0)) fullShare (Y 0) ∗ owns c (spec0_1.stage ((cfg0 (adm m)).slots t 1)) fullShare (Y 1)
        ∗ owns c (spec0_2.stage ((cfg0 (adm m)).slots t 2)) fullShare (Y 2) ∗ owns c (spec0_3.stage ((cfg0 (adm m)).slots t 3)) fullShare (Y 3)))
    ⊢ wp frame (wpE (defs₀ (F := F)) Variants.none c none) Set.univ
      (cc0_tgmm (grid0.coords t) tM0 (Memref.isWhole_whole _) tM1 (Memref.isWhole_whole _) tM2 (Memref.isWhole_whole _) tM3 (Memref.isWhole_whole _)
      (spec0_0.stage ((cfg0 (adm m)).slots t 0)) (hstage0_0 (((cfg0 (adm m)).slots t 0).cast nbuf0_0))
      (spec0_1.stage ((cfg0 (adm m)).slots t 1)) (hstage0_1 (((cfg0 (adm m)).slots t 1).cast nbuf0_1))
      (spec0_2.stage ((cfg0 (adm m)).slots t 2)) (hstage0_2 (((cfg0 (adm m)).slots t 2).cast nbuf0_2))
      (spec0_3.stage ((cfg0 (adm m)).slots t 3)) (hstage0_3 (((cfg0 (adm m)).slots t 3).cast nbuf0_3)))
      (fun _ => iprop((ΦA (cfg0 (adm m)).spec c ∗ ΦT pre0 (tabs m) c)
        ∗ (rdat m c).owesAt () t.succ
        ∗ ((∃ X, ⌜(rdat m c).after 0 t (Y 0) X⌝ ∗ owns c (spec0_0.stage ((cfg0 (adm m)).slots t 0)) fullShare X)
          ∗ (∃ X, ⌜(rdat m c).after 1 t (Y 1) X⌝ ∗ owns c (spec0_1.stage ((cfg0 (adm m)).slots t 1)) fullShare X)
          ∗ (∃ X, ⌜(rdat m c).after 2 t (Y 2) X⌝ ∗ owns c (spec0_2.stage ((cfg0 (adm m)).slots t 2)) fullShare X)
          ∗ (∃ X, ⌜(rdat m c).after 3 t (Y 3) X⌝ ∗ owns c (spec0_3.stage ((cfg0 (adm m)).slots t 3)) fullShare X)))) := by
  obtain ⟨d0, h0⟩ := found0 m c t _ (hY 0)
  obtain ⟨d1, h1⟩ := found1 m c t _ (hY 1)
  obtain ⟨d2, h2⟩ := found2 m c t _ (hY 2)
  have hX : (rdat m c).after 3 t (Y 3) (bodyOut (grid0.coords t) (T0 m) (T1 m) (T2 m) (T3 m) (Y 0) (Y 1) (Y 2) (Y 3)) :=
    ⟨d0, d1, d2, by rw [h0, h1, h2]⟩
  rw [phiT_eq]
  iintro ⟨⟨A, F0, F1, F2, F3⟩, W, H0, H1, H2, H3⟩
  iapply kernelRun c (grid0.coords t) (spec0_0.stage ((cfg0 (adm m)).slots t 0)) _ (spec0_1.stage ((cfg0 (adm m)).slots t 1)) _ (spec0_2.stage ((cfg0 (adm m)).slots t 2)) _
    (spec0_3.stage ((cfg0 (adm m)).slots t 3)) _ (T0 m) (T1 m) (T2 m) (T3 m) (Y 0) (Y 1) (Y 2) (Y 3) (chk m _) _
  isplitl [F0]; iexact F0
  isplitl [F1]; iexact F1
  isplitl [F2]; iexact F2
  isplitl [F3]; iexact F3
  isplitl [H0]; iexact H0
  isplitl [H1]; iexact H1
  isplitl [H2]; iexact H2
  isplitl [H3]; iexact H3
  iintro ⟨F0, F1, F2, F3, H0, H1, H2, H3⟩
  isplitl [A F0 F1 F2 F3]
  · isplitl [A]; iexact A
    isplitl [F0]; iexact F0
    isplitl [F1]; iexact F1
    isplitl [F2]; iexact F2
    iexact F3
  unfold RDat.owesAt owesWithin
  icases W with ⟨%S, %hS, W⟩
  isplitl [W]
  · iexists S
    isplitr
    · ipureintro; exact fun _ _ => Or.inl trivial
    iexact W
  isplitl [H0]
  · iexists (Y 0)
    isplitr
    · ipureintro; exact rfl
    iexact H0
  isplitl [H1]
  · iexists (Y 1)
    isplitr
    · ipureintro; exact rfl
    iexact H1
  isplitl [H2]
  · iexists (Y 2)
    isplitr
    · ipureintro; exact rfl
    iexact H2
  iexists _
  isplitr
  · ipureintro; exact hX
  iexact H3

theorem body_obligation (c : Dev nD) : (rdat m c).BodyObligation defs₀ Variants.none () Set.univ := fun t Y hY => by
  rw [bigSep_W0, bigSep_W0, defs₀_row]
  exact triple_restated (sound_body m c t Y hY) rfl .rfl fun _ => .rfl

/-! ## The launch -/

theorem flat_eq (X : Valuation τ sig (Elt F)) : StableHlo.after [hostOps0 (F := F), hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17].flatten X = x18 X := by
  simp only [List.flatten_cons, List.flatten_nil, StableHlo.after_append]
  rfl

theorem hmain : Pipeline.HMainP (Ix := Unit) (Name := ℕ) (U := UR sig nD τ) (Lvl := ℕ) pcfgs 0 defs₀ Variants.none m (main (F := F)) (V m) := by
  have h := Pipeline.hmainP_prefixes (Ix := Unit) (Name := ℕ) (U := UR sig nD τ) (Lvl := ℕ) (pcs := pcfgs) (p := 0) (defs₀ := defs₀) (𝒱₀ := Variants.none) m (main (F := F)) [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17]
    (by exact ⟨hostOps0_sub, hostOps0_1_sub, hostOps0_2_sub, hostOps0_3_sub, hostOps0_4_sub, hostOps0_5_sub, hostOps0_6_sub, hostOps0_7_sub, hostOps0_8_sub,
      hostOps0_9_sub, hostOps0_10_sub, hostOps0_11_sub, hostOps0_12_sub, hostOps0_13_sub, hostOps0_14_sub, hostOps0_15_sub, hostOps0_16_sub, hostOps0_17_sub⟩)
    (by simp only [List.forall_cons, List.Forall]; repeat' constructor)
    main_chain
  have e : (fun (c : Dev nD) (b : Ref sig .tc) => StableHlo.after [hostOps0 (F := F), hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17].flatten (fun b => m (c, b)) (Proc.devRef .tc b)) = V m := by
    funext c b; exact congrFun (flat_eq _) _
  rw [← e]
  exact h

set_option backward.isDefEq.respectTransparency.types false in
theorem run_main : θ_run defs (onTc (τ := τ) (main (F := F))) (s₀ m ρ)
    (fun r => RDat.FramePost (cfg0 (adm m)) (rdat m) (V m) r ∧ r.2.sem = fun _ => 0) :=
  RDat.θ_run_frameP (Q' := _) pcfgs (fun _ => adm m) 0 launch0 defs₀ Variants.none (rdat m) m ρ main (body_obligation m)
    (fun c w => by unfold RDat.share; split <;> rfl) (fun _ _ => rfl) (V m) (hmain m) (fun _ _ => rfl)
    (fun c k => by rw [Subsingleton.elim c 0]; rfl) (fun _ _ => rfl) (hQ' := fun _ h => h)

variable {m} in
theorem fin_args {r : PUnit × MemSt nD τ sig (Elt F)} (h : RDat.FramePost (cfg0 (adm m)) (rdat m) (V m) r) (c : Dev nD) :
    r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) :=
  ⟨(RDat.FramePost.arr_in h c 1 rfl).trans (arg_0 (fun b => m (c, b))),
   ((h c).2 main_arg1 (Pipeline.mem_restRefs_of (win := spec0) main_arg1 (by decide) (by decide))).trans (arg_1 (fun b => m (c, b))),
   (RDat.FramePost.arr_in h c 2 rfl).trans (arg_2 (fun b => m (c, b))),
   ((h c).2 main_arg3 (Pipeline.mem_restRefs_of (win := spec0) main_arg3 (by decide) (by decide))).trans (arg_3 (fun b => m (c, b))),
   ((h c).2 main_arg4 (Pipeline.mem_restRefs_of (win := spec0) main_arg4 (by decide) (by decide))).trans (arg_4 (fun b => m (c, b)))⟩

end Cert.KernelIdeal.Hand
-- ==== Proof.Plan.lean ====
/-
  The order of the visits in natural numbers: a visit that is not an expert's first continues the visit before it on the next block of rows; one that is
  not its last is continued; the first begins no later than the expert's rows do, the last ends no earlier. The steps of a visit read off its kind. Sums
  over rows, one block at a time.
-/
module
public import proofs.«01_k».proof.Proof.Visits
@[expose] public section
noncomputable section
namespace Cert.Visits

section Order
variable {G : Fin 3 → ℕ} (hG : G 0 + G 1 + G 2 ≤ 16384)
include hG

theorem place {t : ℕ} (h : t < tot G) : (veN G t = 0 ∧ aN G (veN G t) = 0 ∧ t < nN G 0)
    ∨ (veN G t = 1 ∧ aN G (veN G t) = nN G 0 ∧ nN G 0 ≤ t ∧ t < nN G 0 + nN G 1)
    ∨ (veN G t = 2 ∧ aN G (veN G t) = nN G 0 + nN G 1 ∧ nN G 0 + nN G 1 ≤ t ∧ t < nN G 0 + nN G 1 + nN G 2) := by
  unfold tot at h
  unfold veN
  split_ifs
  · exact .inl ⟨rfl, rfl, by omega⟩
  · exact .inr (.inl ⟨rfl, rfl, by omega, by omega⟩)
  · exact .inr (.inr ⟨rfl, rfl, by omega, by omega⟩)

theorem tot_pos : 3 ≤ tot G := by
  have h0 := nN_pos hG 0; have h1 := nN_pos hG 1; have h2 := nN_pos hG 2
  unfold tot; omega

/-- A visit that is not the first of its expert goes on with the visit before it. -/
theorem step {t : ℕ} (h : t + 1 < tot G) (hf : isFirst G (t + 1) = false) :
    veN G t = veN G (t + 1) ∧ blkN G t + 1 = blkN G (t + 1) ∧ isLast G t = false := by
  have h0 := nN_pos hG 0; have h1 := nN_pos hG 1; have h2 := nN_pos hG 2
  have ht : t < tot G := by omega
  unfold isFirst at hf
  have hk : ¬ kN G (t + 1) = 0 := fun e => by simp [h, e] at hf
  unfold isLast blkN
  rw [if_pos ht, if_pos h]
  unfold kN at hk ⊢
  rcases place hG h with ⟨e, a, b⟩ | ⟨e, a, b, b'⟩ | ⟨e, a, b, b'⟩ <;> rcases place hG ht with ⟨e', a', d⟩ | ⟨e', a', d, d'⟩ | ⟨e', a', d, d'⟩ <;>
    rw [a] at hk <;> first | omega | (rw [a, a', e, e']; refine ⟨rfl, by omega, ?_⟩; simp only [decide_eq_false_iff_not]; omega)

/-- A visit that is not the last of its expert is followed by another one. -/
theorem go_on {t : ℕ} (h : t < tot G) (hl : isLast G t = false) : t + 1 < tot G ∧ veN G (t + 1) = veN G t := by
  have h0 := nN_pos hG 0; have h1 := nN_pos hG 1; have h2 := nN_pos hG 2
  unfold isLast at hl
  have hk : ¬ kN G t + 1 = nN G (veN G t) := fun e => by simp [h, e] at hl
  unfold kN at hk
  have ht : t + 1 < tot G := by
    unfold tot
    rcases place hG h with ⟨e, a, b⟩ | ⟨e, a, b, b'⟩ | ⟨e, a, b, b'⟩ <;> rw [a, e] at hk <;> omega
  refine ⟨ht, ?_⟩
  rcases place hG h with ⟨e, a, b⟩ | ⟨e, a, b, b'⟩ | ⟨e, a, b, b'⟩ <;> rcases place hG ht with ⟨e', a', d⟩ | ⟨e', a', d, d'⟩ | ⟨e', a', d, d'⟩ <;>
    rw [a, e] at hk <;> first | omega | rw [e, e']

/-- The visits after the last one with work belong to the last expert, whose last visit is the one before them. -/
theorem after_all {t : ℕ} (h : ¬ t + 1 < tot G) (ht : t < tot G) : veN G t = 2 ∧ isLast G t = true := by
  have h0 := nN_pos hG 0; have h1 := nN_pos hG 1; have h2 := nN_pos hG 2
  cases hl : isLast G t
  · exact absurd (go_on hG ht hl).1 h
  · refine ⟨?_, rfl⟩
    unfold tot at h
    rcases place hG ht with ⟨e, a, b⟩ | ⟨e, a, b, b'⟩ | ⟨e, a, b, b'⟩
    · omega
    · omega
    · exact e

/-- Every expert is visited. -/
theorem visited (e : Fin 3) : aN G e < tot G ∧ veN G (aN G e) = e := by
  have h0 := nN_pos hG 0; have h1 := nN_pos hG 1; have h2 := nN_pos hG 2
  have a0 : aN G 0 = 0 := rfl
  have a1 : aN G 1 = nN G 0 := rfl
  have a2 : aN G 2 = nN G 0 + nN G 1 := rfl
  unfold tot veN
  rcases (show e = 0 ∨ e = 1 ∨ e = 2 by omega) with rfl | rfl | rfl
  · rw [a0, if_pos h0]; exact ⟨by omega, rfl⟩
  · rw [a1, if_neg (by omega), if_pos (by omega)]; exact ⟨by omega, rfl⟩
  · rw [a2, if_neg (by omega), if_neg (by omega)]; exact ⟨by omega, rfl⟩

theorem first_blk {t : ℕ} (hf : isFirst G t = true) : blkN G t * 1024 ≤ bN G (veN G t).castSucc := by
  unfold isFirst at hf
  simp only [decide_eq_true_eq] at hf
  unfold blkN
  rw [if_pos hf.1, hf.2]
  unfold c0; omega

theorem last_blk {t : ℕ} (hl : isLast G t = true) : bN G (veN G t).succ ≤ (blkN G t + 1) * 1024 := by
  unfold isLast at hl
  simp only [decide_eq_true_eq] at hl
  have := c0_lt_c1 hG (veN G t); have hm := bN_mono hG (veN G t)
  unfold blkN
  rw [if_pos hl.1, Nat.add_assoc, hl.2]
  unfold nN
  rw [show c0 G (veN G t) + (c1 G (veN G t) - c0 G (veN G t)) = c1 G (veN G t) by omega]
  unfold c1 c0; split <;> omega

theorem blk_le {t : ℕ} (hr : hasRows G t = true) : blkN G t ≤ 15 := by
  unfold hasRows at hr
  simp only [decide_eq_true_eq] at hr
  have h := aN_le hG hr.1
  have h1 := bN_le hG (veN G t).succ
  have h2 := c0_lt_c1 hG (veN G t)
  unfold blkN kN
  rw [if_pos hr.1]
  unfold nN at h
  have h3 : c1 G (veN G t) = (bN G (veN G t).succ + 1023) / 1024 := by unfold c1; rw [if_neg (by omega)]
  omega

theorem no_rows {t : ℕ} (h : t < tot G) (hr : hasRows G t = false) : bN G (veN G t).succ ≤ bN G (veN G t).castSucc := by
  unfold hasRows at hr
  simp only [decide_eq_false_iff_not, not_and] at hr
  exact Nat.le_of_not_lt (hr h)

theorem whole_blk {t : ℕ} (h : t < tot G) (hr : hasRows G t = true) (hp : isPart G t = false) :
    bN G (veN G t).castSucc ≤ blkN G t * 1024 ∧ (blkN G t + 1) * 1024 ≤ bN G (veN G t).succ := by
  have hb := blk_le hG hr
  unfold isPart at hp
  rw [min_eq_right hb] at hp
  simp only [decide_eq_false_iff_not, not_and, not_or] at hp
  have := hp h
  omega

end Order

theorem dead_kind (G : Fin 3 → ℕ) {t : ℕ} (h : ¬ t < tot G) : isFirst G t = false ∧ isLast G t = false ∧ hasRows G t = false ∧ isPart G t = false := by
  unfold isFirst isLast hasRows isPart
  simp [h]

/-! ## Sums over rows -/

section Rows
variable {E : Type} [AddCommMonoid E]
/-- The sum of the first `n` rows' terms, the rows outside `[s, n')` counting nothing. -/
def rows (s n' : ℕ) (f : ℕ → E) (n : ℕ) : E := ∑ r ∈ Finset.range n, if s ≤ r ∧ r < n' then f r else 0
theorem rows_block (s n' : ℕ) (f : ℕ → E) (b : ℕ) :
    rows s n' f ((b + 1) * 1024) = rows s n' f (b * 1024) + ∑ k : Fin 1024, if s ≤ b * 1024 + k.val ∧ b * 1024 + k.val < n' then f (b * 1024 + k.val) else 0 := by
  unfold rows
  rw [Nat.add_mul, Nat.one_mul, Finset.sum_range_add, Fin.sum_univ_eq_sum_range (fun k => if s ≤ b * 1024 + k ∧ b * 1024 + k < n' then f (b * 1024 + k) else 0)]
theorem rows_before {s n' : ℕ} (f : ℕ → E) {n : ℕ} (h : n ≤ s) : rows s n' f n = 0 :=
  Finset.sum_eq_zero fun r hr => if_neg fun hh => by have := Finset.mem_range.1 hr; omega
theorem rows_none {s n' : ℕ} (f : ℕ → E) {n : ℕ} (h : n' ≤ s) : rows s n' f n = 0 :=
  Finset.sum_eq_zero fun r _ => if_neg fun hh => by omega
theorem rows_all {s n' : ℕ} (f : ℕ → E) {n N : ℕ} (h : n' ≤ n) (h' : n' ≤ N) : rows s n' f n = rows s n' f N := by
  have key : ∀ n, n' ≤ n → rows s n' f n = rows s n' f n' := fun n h => by
    unfold rows
    refine (Finset.sum_subset (Finset.range_mono h) fun r _ hr => if_neg fun hh => ?_).symm
    rw [Finset.mem_range] at hr; omega
  rw [key n h, key N h']
end Rows

end Cert.Visits
-- ==== Proof.KernelIdeal.Pays.lean ====
/-
  What the steps of a visit compute at the extended reals, one element of the output block at a time, and their sum over a visit (`bodyOut_at`): nothing,
  or zeros, plus the products of the block's rows that lie in the expert's range, times the expert's scale at its last visit.
-/
module
public import proofs.«01_k».proof.Proof.KernelIdeal.Run
public import proofs.«01_k».proof.Proof.Plan
public import Idealize.ShloMosaic.Lib.Pointwise
@[expose] public section
noncomputable section
namespace Cert.KernelIdeal.Hand
open Cert.KernelIdeal Cert.KernelIdeal.Gen
open Idealize.ShloMosaic Idealize.ShloMosaic.WordArith
open Cert.Visits (bN blkN veN isFirst isLast hasRows isPart tot)

theorem pay1_at (p : Fin 2560) (q : Fin 2048) : k0_pay1 (F := Ideal) (ix3 0 p q) = 0 := by
  pointwise [k0_pay1]
theorem pay2_at (x : Vec Ideal S1024x2560 .fp8e4m3) (a : Vec Ideal S1x2560x2048 .f32) (y : Vec Ideal S1024x2048 .fp8e5m2) (p : Fin 2560) (q : Fin 2048) :
    k0_pay2 x a y (ix3 0 p q) = a (ix3 0 p q) + ∑ k : Fin 1024, x (ix2 k p) * y (ix2 k q) := by
  pointwise [k0_pay2]
theorem pay4_at (a : Vec Ideal S1x2560x2048 .f32) (z : Elt Ideal .f32) (p : Fin 2560) (q : Fin 2048) :
    k0_pay4 (F := Ideal) a z (ix3 0 p q) = a (ix3 0 p q) * z := by
  pointwise [k0_pay4]

theorem in_range {b s n k : ℕ} (hb : b ≤ 15) (hs : s ≤ 16384) (hn : n ≤ 16384) (hk : k < 1024) {α : Type} (x z : α) :
    Scalar.select (IntOp.andi (IntOp.cmpi .sge (IntOp.addi (BitVec.ofNat 32 k) (Scalar.muli (BitVec.ofNat 32 b) 1024#32)) (BitVec.ofNat 32 s))
      (IntOp.cmpi .slt (IntOp.addi (BitVec.ofNat 32 k) (Scalar.muli (BitVec.ofNat 32 b) 1024#32)) (BitVec.ofNat 32 n))) x z
      = if s ≤ b * 1024 + k ∧ b * 1024 + k < n then x else z := by
  have e : IntOp.addi (BitVec.ofNat 32 k) (Scalar.muli (BitVec.ofNat 32 b) 1024#32) = BitVec.ofNat 32 (b * 1024 + k) := by
    show BitVec.ofNat 32 k + BitVec.ofNat 32 b * BitVec.ofNat 32 1024 = _
    rw [← BitVec.ofNat_mul, ← BitVec.ofNat_add, Nat.add_comm]
  have e1 : IntOp.cmpi .sge (BitVec.ofNat 32 (b * 1024 + k)) (BitVec.ofNat 32 s) = BitVec.ofBool (decide (s ≤ b * 1024 + k)) :=
    Cert.Visits.cmp_le (by omega) (by omega)
  have e2 : IntOp.cmpi .slt (BitVec.ofNat 32 (b * 1024 + k)) (BitVec.ofNat 32 n) = BitVec.ofBool (decide (b * 1024 + k < n)) :=
    Cert.Visits.cmp_lt (by omega) (by omega)
  rw [e, e1, e2]
  by_cases h1 : s ≤ b * 1024 + k <;> by_cases h2 : b * 1024 + k < n <;> simp only [h1, h2, decide_true, decide_false, and_true, and_false, if_true, if_false] <;> rfl

theorem pay3_at {b s n : ℕ} (hb : b ≤ 15) (hs : s ≤ 16384) (hn : n ≤ 16384) (x : Vec Ideal S1024x2560 .fp8e4m3) (a : Vec Ideal S1x2560x2048 .f32) (y : Vec Ideal S1024x2048 .fp8e5m2) (p : Fin 2560) (q : Fin 2048) :
    k0_pay3 (F := Ideal) (BitVec.ofNat 32 b) (BitVec.ofNat 32 s) (BitVec.ofNat 32 n) x a y (ix3 0 p q)
      = a (ix3 0 p q) + ∑ k : Fin 1024, if s ≤ b * 1024 + k.val ∧ b * 1024 + k.val < n then x (ix2 k p) * y (ix2 k q) else 0 := by
  pointwise [k0_pay3]
  refine congrArg _ (Finset.sum_congr rfl fun k _ => ?_)
  exact in_range hb hs hn k.isLt _ _

/-- A visit's kind as a word. -/
def kindW (f l h p : Bool) : BitVec 32 := BitVec.ofNat 32 (f.toNat + l.toNat * 2 + h.toNat * 4 + p.toNat * 8)
theorem cond1_iff : ∀ f l h p : Bool, k0_cond1 (kindW f l h p) = 1#1 ↔ f = true := by decide
theorem cond2_iff : ∀ f l h p : Bool, k0_cond2 (kindW f l h p) = 1#1 ↔ (h = true ∧ p = false) := by decide
theorem cond3_iff : ∀ f l h p : Bool, k0_cond3 (kindW f l h p) = 1#1 ↔ (h = true ∧ p = true) := by decide
theorem cond4_iff : ∀ f l h p : Bool, k0_cond4 (kindW f l h p) = 1#1 ↔ l = true := by decide

theorem off3_eq : ∀ e : Fin 3, k0_off3 (BitVec.ofNat 32 e.val) 0 = e.val := by decide
theorem off4_eq : ∀ e : Fin 3, k0_off4 (BitVec.ofNat 32 e.val) 0 = e.val + 1 := by decide
theorem off5_eq : ∀ e : Fin 3, k0_off5 (BitVec.ofNat 32 e.val) 0 = e.val := by decide
theorem entry4 (f : S4.Idx → Elt Ideal .i32) (e : Fin 3) : entry (n := 4) f (k0_off3 (BitVec.ofNat 32 e.val)) = f (ix1 e.castSucc)
    ∧ entry (n := 4) f (k0_off4 (BitVec.ofNat 32 e.val)) = f (ix1 e.succ) := by
  unfold entry
  constructor
  · rw [dif_pos (by revert e; decide)]
    refine congrArg f (funext fun a => ?_)
    match a with
    | ⟨0, _⟩ => exact Fin.ext (off3_eq e)
  · rw [dif_pos (by revert e; decide)]
    refine congrArg f (funext fun a => ?_)
    match a with
    | ⟨0, _⟩ => exact Fin.ext (off4_eq e)
theorem entry3 (f : S3.Idx → Elt Ideal .f32) (e : Fin 3) : entry (n := 3) f (k0_off5 (BitVec.ofNat 32 e.val)) = f (ix1 e) := by
  unfold entry
  rw [dif_pos (by revert e; decide)]
  refine congrArg f (funext fun a => ?_)
  match a with
  | ⟨0, _⟩ => exact Fin.ext (off5_eq e)

variable (m : (ℓ : Loc nD τ sig) → Buf (Elt Ideal) ℓ)
section Visit
variable {G : Fin 3 → ℕ} (hg : ∀ e, sz m e = BitVec.ofNat 32 (G e)) (hG : G 0 + G 1 + G 2 ≤ 16384) (i : grid0.Coords)

include hg in
theorem t0_eq (j : Fin 4) : T0 m (ix1 j) = BitVec.ofNat 32 (bN G j) :=
  (congrArg (T0 m) (funext fun a => match a with | ⟨0, _⟩ => rfl)).trans ((tabs_bnd m j).trans (Cert.Visits.bnd_eq hg j))
include hg hG
theorem w1_eq : wd (T1 m) i = BitVec.ofNat 32 (veN G (i 2).val).val :=
  ((wd_eq (T1 m) i).trans (tabs_exp m (i 2))).trans (Cert.Visits.vexp_eq hg hG (i 2).isLt)
theorem w2_eq : wd (T2 m) i = BitVec.ofNat 32 (min 15 (blkN G (i 2).val)) :=
  ((wd_eq (T2 m) i).trans (tabs_blk m (i 2))).trans (Cert.Visits.vblk_eq hg hG (i 2).isLt)
theorem w3_eq : wd (T3 m) i = kindW (isFirst G (i 2).val) (isLast G (i 2).val) (hasRows G (i 2).val) (isPart G (i 2).val) :=
  ((wd_eq (T3 m) i).trans (tabs_kind m (i 2))).trans (Cert.Visits.vkind_eq hg hG (i 2).isLt)

/-- An element of the output block after a visit. -/
theorem bodyOut_at (Y0 : Vec Ideal S3 .f32) (Y1 : Vec Ideal S1024x2560 .fp8e4m3) (Y2 : Vec Ideal S1024x2048 .fp8e5m2) (Y3 : Vec Ideal S1x2560x2048 .f32) (p : Fin 2560) (q : Fin 2048) :
    bodyOut i (T0 m) (T1 m) (T2 m) (T3 m) Y0 Y1 Y2 Y3 (ix3 0 p q)
      = (let a : EReal := (if isFirst G (i 2).val = true then 0 else Y3 (ix3 0 p q))
          + (if hasRows G (i 2).val = true then ∑ k : Fin 1024, if bN G (veN G (i 2).val).castSucc ≤ blkN G (i 2).val * 1024 + k.val ∧ blkN G (i 2).val * 1024 + k.val < bN G (veN G (i 2).val).succ
              then Y1 (ix2 k p) * Y2 (ix2 k q) else 0 else 0)
        if isLast G (i 2).val = true then a * Y0 (ix1 (veN G (i 2).val)) else a) := by
  have hv : (i 2).val < 19 := (i 2).isLt
  have hb1 := Cert.Visits.bN_le hG (veN G (i 2).val).castSucc
  have hb2 := Cert.Visits.bN_le hG (veN G (i 2).val).succ
  unfold bodyOut
  rw [w1_eq m hg hG i, w2_eq m hg hG i, w3_eq m hg hG i, (entry4 (T0 m) _).1, (entry4 (T0 m) _).2, entry3, t0_eq m hg, t0_eq m hg]
  unfold acc4 acc3 acc2 acc1
  simp only [cond1_iff, cond2_iff, cond3_iff, cond4_iff]
  have key : ∀ a : Vec Ideal S1x2560x2048 .f32,
      (if hasRows G (i 2).val = true ∧ isPart G (i 2).val = true then
          k0_pay3 (F := Ideal) (BitVec.ofNat 32 (min 15 (blkN G (i 2).val))) (BitVec.ofNat 32 (bN G (veN G (i 2).val).castSucc)) (BitVec.ofNat 32 (bN G (veN G (i 2).val).succ)) Y1
            (if hasRows G (i 2).val = true ∧ isPart G (i 2).val = false then k0_pay2 Y1 a Y2 else a) Y2
        else if hasRows G (i 2).val = true ∧ isPart G (i 2).val = false then k0_pay2 Y1 a Y2 else a) (ix3 0 p q)
      = a (ix3 0 p q) + (if hasRows G (i 2).val = true then ∑ k : Fin 1024, if bN G (veN G (i 2).val).castSucc ≤ blkN G (i 2).val * 1024 + k.val ∧ blkN G (i 2).val * 1024 + k.val < bN G (veN G (i 2).val).succ
              then Y1 (ix2 k p) * Y2 (ix2 k q) else 0 else (0 : EReal)) := by
    intro a
    by_cases hr : hasRows G (i 2).val = true
    · have hb := Cert.Visits.blk_le hG hr
      have ht : (i 2).val < tot G := by
        unfold hasRows at hr
        simp only [decide_eq_true_eq] at hr
        exact hr.1
      rw [if_pos hr, min_eq_right hb]
      by_cases hp : isPart G (i 2).val = true
      · rw [if_pos ⟨hr, hp⟩, if_neg (by rw [hp]; simp), pay3_at hb hb1 hb2]
      · have hp' : isPart G (i 2).val = false := by simpa using hp
        have hw := Cert.Visits.whole_blk hG ht hr hp'
        rw [if_neg (by rw [hp']; simp), if_pos ⟨hr, hp'⟩, pay2_at]
        refine congrArg _ (Finset.sum_congr rfl fun k _ => (if_pos ?_).symm)
        have := k.isLt
        omega
    · rw [if_neg (fun h => hr h.1), if_neg (fun h => hr h.1), if_neg hr, add_zero]
  by_cases hl : isLast G (i 2).val = true
  · rw [if_pos hl]
    simp only [if_pos hl]
    rw [pay4_at, key]
    by_cases hf : isFirst G (i 2).val = true
    · rw [if_pos hf, if_pos hf, pay1_at]
    · rw [if_neg hf, if_neg hf]
  · rw [if_neg hl]
    simp only [if_neg hl]
    rw [key]
    by_cases hf : isFirst G (i 2).val = true
    · rw [if_pos hf, if_pos hf, pay1_at]
    · rw [if_neg hf, if_neg hf]
end Visit
end Cert.KernelIdeal.Hand
-- ==== Proof.KernelIdeal.Blocks.lean ====
/-
  The visits at the extended reals: where each lies, which blocks of the arrays it reads and writes, and when its output block is written back.
-/
module
public import proofs.«01_k».proof.Proof.KernelIdeal.Pays
public import Idealize.ShloMosaic.Lib.Pipeline.ArrRel
public import Idealize.ShloMosaic.Lib.Pipeline.TableIdle
@[expose] public section
noncomputable section
namespace Cert.KernelIdeal.Hand
open Cert.KernelIdeal Cert.KernelIdeal.Gen
open Idealize.ShloMosaic Idealize.ShloMosaic.TcCoe Idealize.ShloMosaic.Pipeline
open Cert.Visits (bN blkN veN isFirst isLast hasRows isPart tot)

variable (m : (ℓ : Loc nD τ sig) → Buf (Elt Ideal) ℓ)

theorem coords_eq : ∀ t : Fin grid0.N, (grid0.coords t 0).val = t.val / 76 ∧ (grid0.coords t 1).val = t.val / 19 % 4 ∧ (grid0.coords t 2).val = t.val % 19 := by
  decide +kernel
theorem gridN : grid0.N = 152 := by decide +kernel
theorem N_eq : (cfg0 (adm m)).N = 152 := gridN

theorem ext1 {n0 : ℕ} (i : (⟨1, ![n0]⟩ : Shape).Idx) (x : Fin n0) (h0 : (i 0 : ℕ) = x.val) : i = ix1 x :=
  funext fun b => Fin.ext (by match b with | ⟨0, _⟩ => exact h0)
theorem ext2 {n0 n1 : ℕ} (i : (⟨2, ![n0, n1]⟩ : Shape).Idx) (x : Fin n0) (y : Fin n1) (h0 : (i 0 : ℕ) = x.val) (h1 : (i 1 : ℕ) = y.val) : i = ix2 x y :=
  funext fun b => Fin.ext (by match b with | ⟨0, _⟩ => exact h0 | ⟨1, _⟩ => exact h1)
theorem ext3 {n0 n1 n2 : ℕ} (i : (⟨3, ![n0, n1, n2]⟩ : Shape).Idx) (x : Fin n0) (y : Fin n1) (z : Fin n2) (h0 : (i 0 : ℕ) = x.val) (h1 : (i 1 : ℕ) = y.val)
    (h2 : (i 2 : ℕ) = z.val) : i = ix3 x y z :=
  funext fun b => Fin.ext (by match b with | ⟨0, _⟩ => exact h0 | ⟨1, _⟩ => exact h1 | ⟨2, _⟩ => exact h2)

/-! A block's place in its array, at any admitted tables. -/
section Places
variable (a : (pcfg0 (F := Ideal)).Adm) (t : Fin grid0.N)

theorem index1_0 : ((cfg0 a).win 1).index t (0 : Fin 2) = (wd (a.1 2) (grid0.coords t)).toNat := congrFun (tr1 a.1 (grid0.coords t)) 0
theorem index1_1 : ((cfg0 a).win 1).index t (1 : Fin 2) = (grid0.coords t 0).val := congrFun (tr1 a.1 (grid0.coords t)) 1
theorem index2_0 : ((cfg0 a).win 2).index t (0 : Fin 2) = (wd (a.1 2) (grid0.coords t)).toNat := congrFun (tr2 a.1 (grid0.coords t)) 0
theorem index2_1 : ((cfg0 a).win 2).index t (1 : Fin 2) = (grid0.coords t 1).val := congrFun (tr2 a.1 (grid0.coords t)) 1
theorem index3_0 : ((cfg0 a).win 3).index t (0 : Fin 3) = (wd (a.1 1) (grid0.coords t)).toNat := congrFun (tr3 a.1 (grid0.coords t)) 0
theorem index3_1 : ((cfg0 a).win 3).index t (1 : Fin 3) = (grid0.coords t 0).val := congrFun (tr3 a.1 (grid0.coords t)) 1
theorem index3_2 : ((cfg0 a).win 3).index t (2 : Fin 3) = (grid0.coords t 1).val := congrFun (tr3 a.1 (grid0.coords t)) 2

theorem emb1_0 (k : Fin 1024) (p : Fin 2560) : ((((cfg0 a).win 1).blk t).view.emb (ix2 k p) (0 : Fin 2) : ℕ) = (wd (a.1 2) (grid0.coords t)).toNat * 1024 + k.val := by
  have h := ((cfg0 a).win 1).rect_emb_val t (ix2 k p) (0 : Fin 2) rfl
  rw [index1_0] at h
  exact h
theorem emb1_1 (k : Fin 1024) (p : Fin 2560) : ((((cfg0 a).win 1).blk t).view.emb (ix2 k p) (1 : Fin 2) : ℕ) = (grid0.coords t 0).val * 2560 + p.val := by
  have h := ((cfg0 a).win 1).rect_emb_val t (ix2 k p) (1 : Fin 2) rfl
  rw [index1_1] at h
  exact h
theorem emb2_0 (k : Fin 1024) (q : Fin 2048) : ((((cfg0 a).win 2).blk t).view.emb (ix2 k q) (0 : Fin 2) : ℕ) = (wd (a.1 2) (grid0.coords t)).toNat * 1024 + k.val := by
  have h := ((cfg0 a).win 2).rect_emb_val t (ix2 k q) (0 : Fin 2) rfl
  rw [index2_0] at h
  exact h
theorem emb2_1 (k : Fin 1024) (q : Fin 2048) : ((((cfg0 a).win 2).blk t).view.emb (ix2 k q) (1 : Fin 2) : ℕ) = (grid0.coords t 1).val * 2048 + q.val := by
  have h := ((cfg0 a).win 2).rect_emb_val t (ix2 k q) (1 : Fin 2) rfl
  rw [index2_1] at h
  exact h
theorem emb3_0 (y : S1x2560x2048.Idx) : ((((cfg0 a).win 3).blk t).view.emb (y) (0 : Fin 3) : ℕ) = (wd (a.1 1) (grid0.coords t)).toNat * 1 + (y 0).val := by
  have h := ((cfg0 a).win 3).rect_emb_val t (y) (0 : Fin 3) rfl
  rw [index3_0] at h
  exact h
theorem emb3_1 (y : S1x2560x2048.Idx) : ((((cfg0 a).win 3).blk t).view.emb (y) (1 : Fin 3) : ℕ) = (grid0.coords t 0).val * 2560 + (y 1).val := by
  have h := ((cfg0 a).win 3).rect_emb_val t (y) (1 : Fin 3) rfl
  rw [index3_1] at h
  exact h
theorem emb3_2 (y : S1x2560x2048.Idx) : ((((cfg0 a).win 3).blk t).view.emb (y) (2 : Fin 3) : ℕ) = (grid0.coords t 1).val * 2048 + (y 2).val := by
  have h := ((cfg0 a).win 3).rect_emb_val t (y) (2 : Fin 3) rfl
  rw [index3_2] at h
  exact h
theorem place0 (e : Fin 3) : (((cfg0 a).win 0).blk t).view.emb (ix1 e) = (ix1 e : S3.Idx) :=
  ext1 _ _ ((((cfg0 a).win 0).rect_emb_val t (ix1 e) (0 : Fin 1) rfl).trans (by show 0 * 3 + e.val = e.val; omega))
theorem place1 (k : Fin 1024) (p : Fin 2560) (n : Fin 16384) (r : Fin 5120)
    (hn : n.val = (wd (a.1 2) (grid0.coords t)).toNat * 1024 + k.val) (hr : r.val = (grid0.coords t 0).val * 2560 + p.val) :
    (((cfg0 a).win 1).blk t).view.emb (ix2 k p) = (ix2 n r : S16384x5120.Idx) :=
  ext2 _ _ _ ((emb1_0 a t k p).trans hn.symm) ((emb1_1 a t k p).trans hr.symm)
theorem place2 (k : Fin 1024) (q : Fin 2048) (n : Fin 16384) (s : Fin 8192)
    (hn : n.val = (wd (a.1 2) (grid0.coords t)).toNat * 1024 + k.val) (hs : s.val = (grid0.coords t 1).val * 2048 + q.val) :
    (((cfg0 a).win 2).blk t).view.emb (ix2 k q) = (ix2 n s : S16384x8192.Idx) :=
  ext2 _ _ _ ((emb2_0 a t k q).trans hn.symm) ((emb2_1 a t k q).trans hs.symm)
theorem place3 (y : S1x2560x2048.Idx) (e : Fin 3) (r : Fin 5120) (s : Fin 8192)
    (he : e.val = (wd (a.1 1) (grid0.coords t)).toNat) (hr : r.val = (grid0.coords t 0).val * 2560 + (y 1).val) (hs : s.val = (grid0.coords t 1).val * 2048 + (y 2).val) :
    (((cfg0 a).win 3).blk t).view.emb y = (ix3 e r s : S3x5120x8192.Idx) :=
  ext3 _ _ _ _ ((emb3_0 a t y).trans (by have : (y 0).val < 1 := (y 0).isLt; omega)) ((emb3_1 a t y).trans hr.symm) ((emb3_2 a t y).trans hs.symm)

theorem index3_iff (t' : Fin grid0.N) : ((cfg0 a).win 3).index t' = ((cfg0 a).win 3).index t ↔
    ((wd (a.1 1) (grid0.coords t')).toNat = (wd (a.1 1) (grid0.coords t)).toNat
      ∧ (grid0.coords t' 0).val = (grid0.coords t 0).val ∧ (grid0.coords t' 1).val = (grid0.coords t 1).val) := by
  constructor
  · intro e
    have e0 := congrFun e (0 : Fin 3)
    have e1 := congrFun e (1 : Fin 3)
    have e2 := congrFun e (2 : Fin 3)
    rw [index3_0, index3_0] at e0
    rw [index3_1, index3_1] at e1
    rw [index3_2, index3_2] at e2
    exact ⟨e0, e1, e2⟩
  · rintro ⟨e0, e1, e2⟩
    rw [← index3_0 a, ← index3_0 a] at e0
    rw [← index3_1 a, ← index3_1 a] at e1
    rw [← index3_2 a, ← index3_2 a] at e2
    have key : ∀ f g : Fin 3 → ℕ, f 0 = g 0 → f 1 = g 1 → f 2 = g 2 → f = g := fun f g h0 h1 h2 => funext fun b => by
      match b with
      | 0 => exact h0
      | 1 => exact h1
      | 2 => exact h2
    exact key _ _ e0 e1 e2

/-- An output block is written back at the last point, and where the next point has another block. -/
theorem flush_of : ((cfg0 a).win 3).flush t = true ↔ t.val + 1 = 152 ∨ ∃ h : t.val + 1 < grid0.N,
    ¬ ((wd (a.1 1) (grid0.coords ⟨t.val + 1, h⟩)).toNat = (wd (a.1 1) (grid0.coords t)).toNat
      ∧ (grid0.coords ⟨t.val + 1, h⟩ 0).val = (grid0.coords t 0).val ∧ (grid0.coords ⟨t.val + 1, h⟩ 1).val = (grid0.coords t 1).val) := by
  unfold Window.flush
  rw [show ((cfg0 a).win 3).isOut = true from rfl, Bool.true_and, Bool.or_eq_true, decide_eq_true_eq, decide_eq_true_eq]
  exact or_congr ⟨fun h => h.trans gridN, fun h => h.trans gridN.symm⟩ (exists_congr fun h => not_congr (index3_iff a t _))
/-- … so, when the expert's table holds the visits' experts, at an expert's last visit. -/
theorem flush_at {G : Fin 3 → ℕ} (ha' : ∀ i, (wd (a.1 1) i).toNat = (veN G (i 2).val).val) : ((cfg0 a).win 3).flush t = true ↔
    t.val + 1 = 152 ∨ t.val % 19 = 18 ∨ veN G (t.val % 19 + 1) ≠ veN G (t.val % 19) := by
  have ht : t.val < 152 := gridN ▸ t.isLt
  have hc := coords_eq t
  refine (flush_of a t).trans ⟨?_, fun hh => ?_⟩
  · rintro (h | ⟨h, ha⟩)
    · exact .inl h
    right
    have hc' := coords_eq ⟨t.val + 1, h⟩
    by_contra hh
    rw [not_or, not_not] at hh
    refine ha ⟨?_, ?_, ?_⟩
    · refine (ha' _).trans (Eq.trans ?_ (ha' _).symm)
      rw [hc.2.2, hc'.2.2, show (t.val + 1) % 19 = t.val % 19 + 1 by omega, hh.2]
    · rw [hc.1, hc'.1]; show (t.val + 1) / 76 = _; omega
    · rw [hc.2.1, hc'.2.1]; show (t.val + 1) / 19 % 4 = _; omega
  · by_cases hl : t.val + 1 = 152
    · exact .inl hl
    · have h : t.val + 1 < grid0.N := lt_of_lt_of_eq (by omega) gridN.symm
      have hc' := coords_eq ⟨t.val + 1, h⟩
      refine .inr ⟨h, fun ⟨h0, h1, h2⟩ => ?_⟩
      replace h0 := (ha' _).symm.trans (h0.trans (ha' _))
      rw [hc.2.2, hc'.2.2] at h0
      rw [hc.1, hc'.1] at h1
      rw [hc.2.1, hc'.2.1] at h2
      replace h1 : (t.val + 1) / 76 = t.val / 76 := h1
      replace h2 : (t.val + 1) / 19 % 4 = t.val / 19 % 4 := h2
      rcases hh with hh | hh | hh
      · exact hl hh
      · omega
      · replace h0 : (veN G ((t.val + 1) % 19)).val = (veN G (t.val % 19)).val := h0
        rw [show (t.val + 1) % 19 = t.val % 19 + 1 by omega] at h0
        exact hh (Fin.ext h0)

/-! What an input block holds. -/
theorem fetch0 (A : S3.Idx → EReal) (d : S3.Idx → Elt Ideal .f32) (e : Fin 3) :
    (((cfg0 a).win 0).fill (grid0.coords t) d ((((cfg0 a).win 0).blk t).view.read (Elt Ideal) A) : S3.Idx → EReal) (ix1 e) = A (ix1 e) :=
  congrArg A (place0 a t e)
theorem fetch1 (A : S16384x5120.Idx → EReal) (d : S1024x2560.Idx → Elt Ideal .fp8e4m3) (k : Fin 1024) (p : Fin 2560) (n : Fin 16384) (r : Fin 5120)
    (hn : n.val = (wd (a.1 2) (grid0.coords t)).toNat * 1024 + k.val) (hr : r.val = (grid0.coords t 0).val * 2560 + p.val) :
    (((cfg0 a).win 1).fill (grid0.coords t) d ((((cfg0 a).win 1).blk t).view.read (Elt Ideal) A) : S1024x2560.Idx → EReal) (ix2 k p) = A (ix2 n r) :=
  congrArg A (place1 a t k p n r hn hr)
theorem fetch2 (A : S16384x8192.Idx → EReal) (d : S1024x2048.Idx → Elt Ideal .fp8e5m2) (k : Fin 1024) (q : Fin 2048) (n : Fin 16384) (s : Fin 8192)
    (hn : n.val = (wd (a.1 2) (grid0.coords t)).toNat * 1024 + k.val) (hs : s.val = (grid0.coords t 1).val * 2048 + q.val) :
    (((cfg0 a).win 2).fill (grid0.coords t) d ((((cfg0 a).win 2).blk t).view.read (Elt Ideal) A) : S1024x2048.Idx → EReal) (ix2 k q) = A (ix2 n s) :=
  congrArg A (place2 a t k q n s hn hs)
end Places

theorem fetch3 (t : Fin (cfg0 (adm m)).N) : ((cfg0 (adm m)).win 3).fetch t = false := rfl

section
variable {G : Fin 3 → ℕ} (hg : ∀ e, sz m e = BitVec.ofNat 32 (G e)) (hG : G 0 + G 1 + G 2 ≤ 16384)
include hg hG
theorem w1_nat (i : grid0.Coords) : (wd (T1 m) i).toNat = (veN G (i 2).val).val := by
  rw [w1_eq m hg hG i, BitVec.toNat_ofNat]
  have := (veN G (i 2).val).isLt
  omega
theorem w2_nat (i : grid0.Coords) : (wd (T2 m) i).toNat = min 15 (blkN G (i 2).val) := by
  rw [w2_eq m hg hG i, BitVec.toNat_ofNat]
  omega

/-- The output block is written back at the last point and where the next point has another block. -/
theorem flush_iff (t : Fin grid0.N) : ((cfg0 (adm m)).win 3).flush t = true ↔
    t.val + 1 = 152 ∨ t.val % 19 = 18 ∨ veN G (t.val % 19 + 1) ≠ veN G (t.val % 19) :=
  flush_at (adm m) t (w1_nat m hg hG)
end

theorem fetchAt0 (c : Dev nD) (t : Fin grid0.N) (d : S3.Idx → Elt Ideal .f32) (e : Fin 3) : in0 m c t d (ix1 e) = V m c main_v3 (ix1 e) :=
  fetch0 (adm m) t (V m c main_v3) d e
theorem adm_eq : (adm m).1 = tabs m := rfl
theorem adm_exp (i : grid0.Coords) : wd (T1 m) i = wd ((adm m).1 1) i := by rw [adm_eq]; rfl
theorem adm_blk (i : grid0.Coords) : wd (T2 m) i = wd ((adm m).1 2) i := by rw [adm_eq]; rfl
theorem fetchAt1 (c : Dev nD) (t : Fin grid0.N) (d : S1024x2560.Idx → Elt Ideal .fp8e4m3) (k : Fin 1024) (p : Fin 2560)
    (n : Fin 16384) (r : Fin 5120) (hn : n.val = (wd (T2 m) (grid0.coords t)).toNat * 1024 + k.val) (hr : r.val = (grid0.coords t 0).val * 2560 + p.val) :
    in1 m c t d (ix2 k p) = V m c main_arg0 (ix2 n r) := by
  rw [adm_blk] at hn
  exact fetch1 (adm m) t (V m c main_arg0) d k p n r hn hr
theorem fetchAt2 (c : Dev nD) (t : Fin grid0.N) (d : S1024x2048.Idx → Elt Ideal .fp8e5m2) (k : Fin 1024) (q : Fin 2048)
    (n : Fin 16384) (s : Fin 8192) (hn : n.val = (wd (T2 m) (grid0.coords t)).toNat * 1024 + k.val) (hs : s.val = (grid0.coords t 1).val * 2048 + q.val) :
    in2 m c t d (ix2 k q) = V m c main_arg2 (ix2 n s) := by
  rw [adm_blk] at hn
  exact fetch2 (adm m) t (V m c main_arg2) d k q n s hn hs
end Cert.KernelIdeal.Hand
-- ==== Proof.Sums.lean ====
/-
  What an element of the output block holds from visit to visit: at a visit that is not its expert's last, the sum over the rows up to the end of the
  visit's block; from the last on, the sum over all the expert's rows times the expert's scale.
-/
module
public import proofs.«01_k».proof.Proof.Plan
public import Mathlib.Data.EReal.Operations
@[expose] public section
noncomputable section
namespace Cert.Visits

variable (G : Fin 3 → ℕ) (f : ℕ → EReal) (sc : Fin 3 → EReal)

/-- The sum over an expert's rows among the first `n`. -/
def part_sum (e : Fin 3) (n : ℕ) : EReal := rows (bN G e.castSucc) (bN G e.succ) f n

/-- The element after a visit, from what was there. -/
def visit (t : ℕ) (Y : EReal) : EReal :=
  let a : EReal := (if isFirst G t = true then 0 else Y)
    + (if hasRows G t = true then ∑ k : Fin 1024, if bN G (veN G t).castSucc ≤ blkN G t * 1024 + k.val ∧ blkN G t * 1024 + k.val < bN G (veN G t).succ
        then f (blkN G t * 1024 + k.val) else 0 else 0)
  if isLast G t = true then a * sc (veN G t) else a

/-- What the element holds after a visit. -/
def Held (t : ℕ) (X : EReal) : Prop :=
  (t < tot G → isLast G t = false → X = part_sum G f (veN G t) ((blkN G t + 1) * 1024))
  ∧ ((t < tot G → isLast G t = true) → X = part_sum G f (veN G t) 16384 * sc (veN G t))

variable {G} (hG : G 0 + G 1 + G 2 ≤ 16384)
include hG

theorem held_visit (t : ℕ) (Y : EReal) (hY : isFirst G t = false → ∃ u, t = u + 1 ∧ Held G f sc u Y) : Held G f sc t (visit G f sc t Y) := by
  by_cases ht : t < tot G
  · have h0 : (if isFirst G t = true then 0 else Y) = part_sum G f (veN G t) (blkN G t * 1024) := by
      cases hf : isFirst G t
      · obtain ⟨u, rfl, hu⟩ := hY hf
        obtain ⟨e1, e2, e3⟩ := step hG ht hf
        rw [if_neg (by decide), hu.1 (by omega) e3, e1, e2]
      · rw [if_pos rfl]
        exact (rows_before f (first_blk hG hf)).symm
    have h1 : (if isFirst G t = true then 0 else Y)
        + (if hasRows G t = true then ∑ k : Fin 1024, if bN G (veN G t).castSucc ≤ blkN G t * 1024 + k.val ∧ blkN G t * 1024 + k.val < bN G (veN G t).succ
          then f (blkN G t * 1024 + k.val) else 0 else 0) = part_sum G f (veN G t) ((blkN G t + 1) * 1024) := by
      rw [h0]
      cases hr : hasRows G t
      · rw [if_neg (by decide), add_zero]
        unfold part_sum
        rw [rows_none f (no_rows hG ht hr), rows_none f (no_rows hG ht hr)]
      · rw [if_pos rfl]
        exact (rows_block _ _ f _).symm
    unfold visit
    refine ⟨fun _ hl => ?_, fun hl => ?_⟩
    · simp only [h1]
      rw [if_neg (by rw [hl]; decide)]
    · have hl := hl ht
      simp only [h1]
      rw [if_pos hl]
      refine congrArg (· * _) ?_
      exact rows_all f (last_blk hG hl) (bN_le hG _)
  · obtain ⟨k1, k2, k3, -⟩ := dead_kind G ht
    obtain ⟨u, rfl, hu⟩ := hY k1
    refine ⟨fun h => absurd h ht, fun _ => ?_⟩
    have e2 : veN G u = 2 ∧ (u < tot G → isLast G u = true) := by
      by_cases hu' : u < tot G
      · exact ⟨(after_all hG ht hu').1, fun _ => (after_all hG ht hu').2⟩
      · exact ⟨veN_dead hG hu', fun h => absurd h hu'⟩
    unfold visit
    simp only [k1, k2, k3, Bool.false_eq_true, if_false, add_zero]
    rw [veN_dead hG ht, hu.2 e2.2, e2.1]

/-- After a visit whose next one belongs to another expert the element is final. -/
theorem held_final {t : ℕ} (X : EReal) (h : Held G f sc t X) (hn : t = 18 ∨ veN G (t + 1) ≠ veN G t) :
    X = part_sum G f (veN G t) 16384 * sc (veN G t) := by
  refine h.2 fun ht => ?_
  cases hl : isLast G t
  · obtain ⟨h1, h2⟩ := go_on hG ht hl
    have := tot_le hG
    rcases hn with rfl | hn
    · omega
    · exact absurd h2 hn
  · rfl

/-- A visit that is not an expert's first is not the first at all, and the one before it belongs to the same expert. -/
theorem same_before {t : ℕ} (hf : isFirst G t = false) : ∃ u, t = u + 1 ∧ veN G (u + 1) = veN G u := by
  by_cases ht : t < tot G
  · match t, hf, ht with
    | 0, hf, ht =>
      have h0 := nN_pos hG 0
      have : isFirst G 0 = true := by
        unfold isFirst kN
        simp [ht]
      rw [this] at hf
      exact absurd hf (by decide)
    | u + 1, hf, ht => exact ⟨u, rfl, (step hG ht hf).1.symm⟩
  · have h3 := tot_pos hG
    obtain ⟨u, rfl⟩ : ∃ u, t = u + 1 := ⟨t - 1, by omega⟩
    refine ⟨u, rfl, ?_⟩
    rw [veN_dead hG ht]
    by_cases hu' : u < tot G
    · exact (after_all hG ht hu').1.symm
    · exact (veN_dead hG hu').symm

/-- Every expert has a visit whose next one belongs to another expert. -/
theorem ends (e : Fin 3) : ∃ t, t < 19 ∧ veN G t = e ∧ (t = 18 ∨ veN G (t + 1) ≠ veN G t) := by
  have h0 := nN_pos hG 0; have h1 := nN_pos hG 1; have h2 := nN_pos hG 2
  have h3 := tot_le hG
  unfold tot at h3
  unfold veN
  rcases (show e = 0 ∨ e = 1 ∨ e = 2 by omega) with rfl | rfl | rfl
  · refine ⟨nN G 0 - 1, by omega, by rw [if_pos (by omega)], .inr ?_⟩
    rw [if_neg (by omega), if_pos (by omega), if_pos (by omega)]; decide
  · refine ⟨nN G 0 + nN G 1 - 1, by omega, by rw [if_neg (by omega), if_pos (by omega)], .inr ?_⟩
    rw [if_neg (by omega), if_neg (by omega), if_neg (by omega), if_pos (by omega)]; decide
  · exact ⟨18, by decide, by rw [if_neg (by omega), if_neg (by omega)], .inl rfl⟩

end Cert.Visits
-- ==== Proof.KernelIdeal.Acc.lean ====
/-
  The output array after the run: at each block and each visit the element's value by the visits before it, and so the sum over the expert's rows times the
  expert's scale wherever the block is written back.
-/
module
public import proofs.«01_k».proof.Proof.KernelIdeal.Blocks
public import proofs.«01_k».proof.Proof.Sums
@[expose] public section
noncomputable section
namespace Cert.KernelIdeal.Hand
open Cert.KernelIdeal Cert.KernelIdeal.Gen
open Idealize.ShloMosaic Idealize.ShloMosaic.TcCoe Idealize.ShloMosaic.Pipeline
open Cert.Visits (bN blkN veN isFirst isLast hasRows isPart tot Held visit part_sum)

variable (m : (ℓ : Loc nD τ sig) → Buf (Elt Ideal) ℓ)

/-- The product of row `n`'s codes in two columns. -/
def prods (X : S16384x5120.Idx → EReal) (D : S16384x8192.Idx → EReal) (r : Fin 5120) (s : Fin 8192) (n : ℕ) : EReal :=
  if h : n < 16384 then X (ix2 ⟨n, h⟩ r) * D (ix2 ⟨n, h⟩ s) else 0

/-- The sum over the rows of expert `e`, scaled. -/
def want (G : Fin 3 → ℕ) (X : S16384x5120.Idx → EReal) (D : S16384x8192.Idx → EReal) (S : S3.Idx → EReal) (e : Fin 3) (r : Fin 5120) (s : Fin 8192) : EReal :=
  part_sum G (prods X D r s) e 16384 * S (ix1 e)

section
variable {G : Fin 3 → ℕ} (hg : ∀ e, sz m e = BitVec.ofNat 32 (G e)) (hG : G 0 + G 1 + G 2 ≤ 16384)
include hg hG

/-- One visit, at one element. -/
theorem aft_at (c : Dev nD) (t : Fin grid0.N) (Y X : S1x2560x2048.Idx → EReal) (h : Aft m c t Y X) (p : Fin 2560) (q : Fin 2048) (r : Fin 5120) (s : Fin 8192)
    (hr : r.val = t.val / 76 * 2560 + p.val) (hs : s.val = t.val / 19 % 4 * 2048 + q.val) :
    X (ix3 0 p q) = visit G (prods (V m c main_arg0) (V m c main_arg2) r s) (fun e => V m c main_v3 (ix1 e)) (t.val % 19) (Y (ix3 0 p q)) := by
  obtain ⟨d0, d1, d2, rfl⟩ := h
  have hc := coords_eq t
  have hb := bodyOut_at m hg hG (grid0.coords t) (in0 m c t d0) (in1 m c t d1) (in2 m c t d2) Y p q
  rw [hb]
  have hw := w2_nat m hg hG (grid0.coords t)
  rw [hc.2.2] at hw ⊢
  unfold visit
  have hsum : (if hasRows G (t.val % 19) = true then ∑ k : Fin 1024, if bN G (veN G (t.val % 19)).castSucc ≤ blkN G (t.val % 19) * 1024 + k.val ∧ blkN G (t.val % 19) * 1024 + k.val < bN G (veN G (t.val % 19)).succ
              then (in1 m c t d1 (ix2 k p) : EReal) * in2 m c t d2 (ix2 k q) else 0 else 0)
      = (if hasRows G (t.val % 19) = true then ∑ k : Fin 1024, if bN G (veN G (t.val % 19)).castSucc ≤ blkN G (t.val % 19) * 1024 + k.val ∧ blkN G (t.val % 19) * 1024 + k.val < bN G (veN G (t.val % 19)).succ
              then prods (V m c main_arg0) (V m c main_arg2) r s (blkN G (t.val % 19) * 1024 + k.val) else 0 else 0) := by
    by_cases hh : hasRows G (t.val % 19) = true
    · rw [if_pos hh, if_pos hh]
      refine Finset.sum_congr rfl fun k _ => ?_
      have hle := Cert.Visits.blk_le hG hh
      rw [min_eq_right hle] at hw
      have hn : blkN G (t.val % 19) * 1024 + k.val < 16384 := by have := k.isLt; omega
      unfold prods
      rw [dif_pos hn, fetchAt1 m c t d1 k p ⟨_, hn⟩ r (by rw [hw]) (by rw [hc.1]; exact hr), fetchAt2 m c t d2 k q ⟨_, hn⟩ s (by rw [hw]) (by rw [hc.2.1]; exact hs)]
    · rw [if_neg hh, if_neg hh]
  simp only [hsum, fetchAt0]

/-- What an element of the output block holds after each visit. -/
theorem held (c : Dev nD) (n : ℕ) : ∀ (t : Fin grid0.N), t.val = n → ∀ (X : S1x2560x2048.Idx → EReal), (rdat m c).Leaves 3 t X → ∀ (p : Fin 2560) (q : Fin 2048) (r : Fin 5120) (s : Fin 8192),
    r.val = t.val / 76 * 2560 + p.val → s.val = t.val / 19 % 4 * 2048 + q.val →
    Held G (prods (V m c main_arg0) (V m c main_arg2) r s) (fun e => V m c main_v3 (ix1 e)) (t.val % 19) (X (ix3 0 p q)) := by
  induction n with
  | zero =>
    intro t ht X hX p q r s hr hs
    obtain ⟨Y, hY, hA⟩ := hX
    rw [aft_at m hg hG c t Y X (aft_of m c t Y X hA) p q r s hr hs]
    refine Cert.Visits.held_visit _ _ hG _ _ fun hf => ?_
    obtain ⟨u, hu, -⟩ := Cert.Visits.same_before hG hf
    omega
  | succ n ih =>
    intro t ht X hX p q r s hr hs
    obtain ⟨Y, hY, hA⟩ := hX
    rw [aft_at m hg hG c t Y X (aft_of m c t Y X hA) p q r s hr hs]
    refine Cert.Visits.held_visit _ _ hG _ _ fun hf => ?_
    obtain ⟨u, hu, he⟩ := Cert.Visits.same_before hG hf
    have hN := gridN
    have hl : t.val < 152 := lt_of_lt_of_eq t.isLt gridN
    have hv : u = (t.val - 1) % 19 := by omega
    refine ⟨u, hu, ?_⟩
    rcases ((rdat m c).finds_of_pos (fetch3 m t) (by omega) Y).1 hY with hfl | hL
    · exfalso
      rcases (flush_iff m hg hG _).1 hfl with h | h | h
      · have h' : t.val - 1 + 1 = 152 := h; omega
      · have h' : (t.val - 1) % 19 = 18 := h; omega
      · refine h ?_
        show veN G ((t.val - 1) % 19 + 1) = veN G ((t.val - 1) % 19)
        rw [← hv]; exact he
    · have := ih ⟨t.val - 1, by omega⟩ (by show t.val - 1 = n; omega) Y hL p q r s (by show _ = (t.val - 1) / 76 * 2560 + _; rw [hr]; congr 2; omega)
        (by show _ = (t.val - 1) / 19 % 4 * 2048 + _; rw [hs]; congr 2; omega)
      rw [hv]
      exact this

/-- Where the block is written back, it holds the scaled sum. -/
theorem written (c : Dev nD) (t : Fin grid0.N) (hf : ((cfg0 (adm m)).win 3).flush t = true) (X : S1x2560x2048.Idx → EReal) (hX : (rdat m c).Leaves 3 t X)
    (p : Fin 2560) (q : Fin 2048) (r : Fin 5120) (s : Fin 8192) (hr : r.val = t.val / 76 * 2560 + p.val) (hs : s.val = t.val / 19 % 4 * 2048 + q.val) :
    X (ix3 0 p q) = want G (V m c main_arg0) (V m c main_arg2) (V m c main_v3) (veN G (t.val % 19)) r s := by
  refine Cert.Visits.held_final _ (fun e => V m c main_v3 (ix1 e)) hG _ (held m hg hG c _ t rfl X hX p q r s hr hs) ?_
  rcases (flush_iff m hg hG t).1 hf with h | h | h
  · left; omega
  · exact .inl h
  · exact .inr h

/-- The output array after the run. -/
theorem final (c : Dev nD) (after : (w' : Fin (cfg0 (adm m)).W) → Fin (cfg0 (adm m)).N → ((cfg0 (adm m)).win w').block.Idx → Elt Ideal ((cfg0 (adm m)).win w').elt)
    (hL : ∀ (w : Fin (cfg0 (adm m)).W) (u : Fin grid0.N), ((cfg0 (adm m)).win w).flush u = true → (rdat m c).Leaves w u (after w u)) :
    ((rdat m c).withAfter after).arrAt 3 (cfg0 (adm m)).N
      = fun i : S3x5120x8192.Idx => want G (V m c main_arg0) (V m c main_arg2) (V m c main_v3) (i 0) (i 1) (i 2) := by
  have hN := gridN
  refine Dat.arrAt_eq_of_emb _ 3 _ (fun t hf y => ?_) fun i => ?_
  · have ht : t.val < 152 := lt_of_lt_of_eq t.isLt gridN
    have hc := coords_eq t
    have h1 : (y (1 : Fin 3)).val < 2560 := (y (1 : Fin 3)).isLt
    have h2 : (y (2 : Fin 3)).val < 2048 := (y (2 : Fin 3)).isLt
    have hr : t.val / 76 * 2560 + (y (1 : Fin 3)).val < 5120 := by omega
    have hs : t.val / 19 % 4 * 2048 + (y (2 : Fin 3)).val < 8192 := by omega
    have hp := place3 (adm m) t y (veN G (t.val % 19)) ⟨_, hr⟩ ⟨_, hs⟩ (by rw [← adm_exp, w1_nat m hg hG, hc.2.2]) (by rw [hc.1]) (by rw [hc.2.1])
    rw [hp]
    have hw := written m hg hG c t hf (after 3 t) (hL 3 t hf) ⟨_, h1⟩ ⟨_, h2⟩ ⟨_, hr⟩ ⟨_, hs⟩ rfl rfl
    have hy : (y : S1x2560x2048.Idx) = ix3 0 ⟨_, h1⟩ ⟨_, h2⟩ := ext3 _ _ _ _ (by have : (y (0 : Fin 3)).val < 1 := (y (0 : Fin 3)).isLt; show (y (0 : Fin 3)).val = 0; omega) rfl rfl
    refine Eq.trans ?_ hw
    exact congrArg (after 3 t : S1x2560x2048.Idx → EReal) hy
  · obtain ⟨v, hv, he, hn⟩ := Cert.Visits.ends hG (i (0 : Fin 3))
    have h1 : (i (1 : Fin 3)).val < 5120 := (i (1 : Fin 3)).isLt
    have h2 : (i (2 : Fin 3)).val < 8192 := (i (2 : Fin 3)).isLt
    obtain ⟨u, hu⟩ : ∃ u, u = (i (1 : Fin 3)).val / 2560 * 76 + (i (2 : Fin 3)).val / 2048 * 19 + v := ⟨_, rfl⟩
    have hlt : u < grid0.N := lt_of_lt_of_eq (by omega) gridN.symm
    have hm : u % 19 = v := by omega
    refine ⟨⟨u, hlt⟩, (flush_iff m hg hG ⟨u, hlt⟩).2 ?_, ?_⟩
    · right
      show u % 19 = 18 ∨ veN G (u % 19 + 1) ≠ veN G (u % 19)
      rw [hm]
      exact hn
    · have hc := coords_eq ⟨u, hlt⟩
      have hp := place3 (adm m) ⟨u, hlt⟩ (ix3 0 ⟨(i (1 : Fin 3)).val % 2560, Nat.mod_lt _ (by decide)⟩ ⟨(i (2 : Fin 3)).val % 2048, Nat.mod_lt _ (by decide)⟩)
        (i (0 : Fin 3)) (i (1 : Fin 3)) (i (2 : Fin 3)) (by rw [← adm_exp, w1_nat m hg hG, hc.2.2]; show _ = (veN G (u % 19)).val; rw [hm, he])
        (by rw [hc.1]; show _ = u / 76 * 2560 + (i (1 : Fin 3)).val % 2560; omega) (by rw [hc.2.1]; show _ = u / 19 % 4 * 2048 + (i (2 : Fin 3)).val % 2048; omega)
      have hi : (i : S3x5120x8192.Idx) = ix3 (i (0 : Fin 3)) (i (1 : Fin 3)) (i (2 : Fin 3)) := ext3 _ _ _ _ rfl rfl rfl
      have hmem := View.emb_mem_set (((cfg0 (adm m)).win 3).blk ⟨u, hlt⟩).view (ix3 0 ⟨(i (1 : Fin 3)).val % 2560, Nat.mod_lt _ (by decide)⟩ ⟨(i (2 : Fin 3)).val % 2048, Nat.mod_lt _ (by decide)⟩)
      rw [hp] at hmem
      rw [hi]
      exact hmem
end
end Cert.KernelIdeal.Hand
-- ==== Proof.ReferenceIdeal.Pays.lean ====
/-
  What the reference's one grid point leaves in the output: for every expert, the sum of the products of the rows that the row words name it in, times its
  two scales (`out_eq`).
-/
module
public import proofs.«01_k».proof.Proof.Gen.ReferenceIdeal.Value
public import Idealize.ShloMosaic.Lib.Pointwise
@[expose] public section
noncomputable section
namespace Cert.ReferenceIdeal.Hand
open Cert.ReferenceIdeal Cert.ReferenceIdeal.Gen Cert.ReferenceIdeal.Value
open Idealize.ShloMosaic Idealize.ShloMosaic.TcCoe Idealize.SL.Sem

/-- The sum over the rows whose word is `w` of the products of the two codes. -/
def named (E : S16384x1.Idx → BitVec 32) (X : S16384x5120.Idx → EReal) (Y : S16384x8192.Idx → EReal) (w : BitVec 32) (r : Fin 5120) (s : Fin 8192) : EReal :=
  ∑ n : Fin 16384, Scalar.select (IntOp.cmpi .eq (E (ix2 n 0)) w) (X (ix2 n r) * Y (ix2 n s)) 0
/-- The reference's output as one function of the row words, the codes and the scales. -/
def outR (E : S16384x1.Idx → BitVec 32) (xs ys : S3.Idx → EReal) (X : S16384x5120.Idx → EReal) (Y : S16384x8192.Idx → EReal) : S3x5120x8192.Idx → EReal :=
  fun i => named E X Y (BitVec.ofNat 32 (i 0).val) (i 1) (i 2) * (xs (ix1 (i 0)) * ys (ix1 (i 0)))

variable (E : Vec Ideal S16384x1 .i32) (X : Vec Ideal S16384x5120 .fp8e4m3) (Y : Vec Ideal S16384x8192 .fp8e5m2) (a b : Elt Ideal .f32) (r : Fin 5120) (s : Fin 8192)
theorem pay3_at : k0_pay3 (F := Ideal) E X Y a b (ix3 0 r s) = named E X Y 0#32 r s * (a * b) := by
  pointwise [k0_pay3]
  unfold named
  rfl
theorem pay1_at : k0_pay1 (F := Ideal) (k0_pay4 (F := Ideal) E X Y) a b (ix3 0 r s) = named E X Y 1#32 r s * (a * b) := by
  pointwise [k0_pay1, k0_pay4]
  unfold named
  rfl
theorem pay2_at : k0_pay2 (F := Ideal) E X Y a b (ix3 0 r s) = named E X Y 2#32 r s * (a * b) := by
  pointwise [k0_pay2]
  unfold named
  rfl

section Read
variable {E E' : Vec Ideal S16384x1 .i32} {X X' : Vec Ideal S16384x5120 .fp8e4m3} {Y Y' : Vec Ideal S16384x8192 .fp8e5m2} {a b a' b' : Elt Ideal .f32}
  (hE : E' = E) (hX : X' = X) (hY : Y' = Y) (ha : a' = a) (hb : b' = b) (r : Fin 5120) (s : Fin 8192)
include hE hX hY
theorem pay4_of : k0_pay4 (F := Ideal) E' X' Y' = k0_pay4 (F := Ideal) E X Y := by rw [hE, hX, hY]
include ha hb
theorem pay3_of : k0_pay3 (F := Ideal) E' X' Y' a' b' (ix3 0 r s) = named E X Y 0#32 r s * (a * b) := by rw [hE, hX, hY, ha, hb, pay3_at]
theorem pay2_of : k0_pay2 (F := Ideal) E' X' Y' a' b' (ix3 0 r s) = named E X Y 2#32 r s * (a * b) := by rw [hE, hX, hY, ha, hb, pay2_at]
omit hE hX hY
theorem pay1_of {v : FVec Ideal S5120x8192 .f32} (hv : v = k0_pay4 (F := Ideal) E X Y) : k0_pay1 (F := Ideal) v a' b' (ix3 0 r s) = named E X Y 1#32 r s * (a * b) := by
  rw [hv, ha, hb, pay1_at]
end Read

theorem hz : (![0, 0] : Fin 2 → Nat) = fun _ => 0 := funext fun a => by fin_cases a <;> rfl
theorem ext3 (i : S3x5120x8192.Idx) (e : Fin 3) (p : Fin 5120) (q : Fin 8192) (h0 : (i 0).val = e.val) (h1 : (i 1).val = p.val) (h2 : (i 2).val = q.val) : i = ix3 e p q :=
  funext fun a => by
    match a with
    | ⟨0, _⟩ => exact Fin.ext h0
    | ⟨1, _⟩ => exact Fin.ext h1
    | ⟨2, _⟩ => exact Fin.ext h2
/-- A store of expert `e`'s block agrees with a function of the whole output that it agrees with element by element. -/
theorem block_of (G : S3x5120x8192.Idx → EReal) (e : Fin 3) (o : Nat) (ho : o = e.val) (inb : ∀ a, (![o, 0, 0] : Fin 3 → Nat) a + S1x5120x8192.size a ≤ S3x5120x8192.size a)
    (w : S1x5120x8192.Idx → EReal) (h : ∀ (r : Fin 5120) (s : Fin 8192), w (ix3 0 r s) = G (ix3 e r s)) (x : (Rect.unit (s := S3x5120x8192) ![o, 0, 0] S1x5120x8192.size inb).shape.Idx) :
    w x = G ((Rect.unit (s := S3x5120x8192) ![o, 0, 0] S1x5120x8192.size inb).emb x) := by
  have h0 : (x (0 : Fin 3)).val < 1 := (x (0 : Fin 3)).isLt
  have hx : (x : S1x5120x8192.Idx) = ix3 0 (x (1 : Fin 3)) (x (2 : Fin 3)) := funext fun a => by
    match a with
    | ⟨0, _⟩ => exact Fin.ext (by show (x (0 : Fin 3)).val = 0; omega)
    | ⟨1, _⟩ => rfl
    | ⟨2, _⟩ => rfl
  have he : (Rect.unit (s := S3x5120x8192) ![o, 0, 0] S1x5120x8192.size inb).emb x = ix3 e (x (1 : Fin 3)) (x (2 : Fin 3)) :=
    ext3 _ _ _ _ (by show o + 1 * (x (0 : Fin 3)).val = e.val; omega) (by show 0 + 1 * (x (1 : Fin 3)).val = (x (1 : Fin 3)).val; omega)
      (by show 0 + 1 * (x (2 : Fin 3)).val = (x (2 : Fin 3)).val; omega)
  rw [he]
  exact (congrArg w hx).trans (h _ _)
/-- An index of expert `e` is in that expert's block. -/
theorem in_block (i : S3x5120x8192.Idx) (o : Nat) (ho : (i 0).val = o) (inb : ∀ a, (![o, 0, 0] : Fin 3 → Nat) a + S1x5120x8192.size a ≤ S3x5120x8192.size a) :
    i ∈ (Rect.unit (s := S3x5120x8192) ![o, 0, 0] S1x5120x8192.size inb).set := by
  refine (Rect.unit (s := S3x5120x8192) ![o, 0, 0] S1x5120x8192.size inb).mem_set.mpr fun a => ?_
  match a with
  | ⟨0, _⟩ => exact ⟨0, Nat.zero_lt_one, by show (i 0).val = o + 1 * 0; omega⟩
  | ⟨1, _⟩ => exact ⟨(i 1).val, (i 1).isLt, by show (i 1).val = 0 + 1 * (i 1).val; omega⟩
  | ⟨2, _⟩ => exact ⟨(i 2).val, (i 2).isLt, by show (i 2).val = 0 + 1 * (i 2).val; omega⟩

theorem out_eq (c : Dev nD) (arg0 : Memref sig .tc .vmem S16384x1 .i32) (harg0 : arg0.IsWhole) (arg1 : Memref sig .tc .smem S3 .f32) (harg1 : arg1.IsWhole)
    (arg2 : Memref sig .tc .smem S3 .f32) (harg2 : arg2.IsWhole) (arg3 : Memref sig .tc .vmem S16384x5120 .fp8e4m3) (harg3 : arg3.IsWhole)
    (arg4 : Memref sig .tc .vmem S16384x8192 .fp8e5m2) (harg4 : arg4.IsWhole) (arg5 : Memref sig .tc .vmem S3x5120x8192 .f32) (harg5 : arg5.IsWhole)
    (x0 : Vec Ideal S16384x1 .i32) (x1 : Vec Ideal S3 .f32) (x2 : Vec Ideal S3 .f32) (x3 : Vec Ideal S16384x5120 .fp8e4m3) (x4 : Vec Ideal S16384x8192 .fp8e5m2) :
    out0_A_5 (F := Ideal) c arg0 harg0 arg1 harg1 arg2 harg2 arg3 harg3 arg4 harg4 arg5 harg5 x0 x1 x2 x3 x4 = outR x0 x1 x2 x3 x4 := by
  have l0 : View.readAt (Elt Ideal) arg0.view (Rect.unit ![0, 0] S16384x1.size inb_S16384x1_S16384x1_0_0).toLoadRect (harg0.unread x0) = x0 := by
    rw [View.readAt_eq_ld, harg0.read_unread, View.ld_unit_zero hz]
  have l3 : View.readAt (Elt Ideal) arg3.view (Rect.unit ![0, 0] S16384x5120.size inb_S16384x5120_S16384x5120_0_0).toLoadRect (harg3.unread x3) = x3 := by
    rw [View.readAt_eq_ld, harg3.read_unread, View.ld_unit_zero hz]
  have l4 : View.readAt (Elt Ideal) arg4.view (Rect.unit ![0, 0] S16384x8192.size inb_S16384x8192_S16384x8192_0_0).toLoadRect (harg4.unread x4) = x4 := by
    rw [View.readAt_eq_ld, harg4.read_unread, View.ld_unit_zero hz]
  have lw : ∀ (M : Memref sig .tc .smem S3 .f32) (h : M.IsWhole) (x : Vec Ideal S3 .f32) (k : Fin 3) (o : Nat) (ho : o = k.val) (inb : ∀ a, (![o] : Fin 1 → Nat) a + S1.size a ≤ S3.size a) (j),
      View.readAt (Elt Ideal) M.view (Rect.unit (s := S3) ![o] S1.size inb).toLoadRect (h.unread x) j = x (ix1 k) := fun M h x k o ho inb j => by
    rw [View.readAt_eq_ld, h.read_unread]
    refine congrArg x (funext fun a => ?_)
    match a with
    | ⟨0, _⟩ =>
      have hj : (j (0 : Fin 1)).val < 1 := (j (0 : Fin 1)).isLt
      exact Fin.ext (by show o + 1 * (j (0 : Fin 1)).val = k.val; omega)
  funext i
  unfold out0_A_5
  refine View.read_writes_apply_of_pieces (Val := Elt Ideal) (e := .f32) _ _ (outR x0 x1 x2 x3 x4) _ ?_ i ?_
  · intro p hp
    rcases List.mem_cons.mp hp with rfl | hp
    · refine block_of _ 2 2 rfl inb_S3x5120x8192_S1x5120x8192_2_0_0 (k0_pay2 (F := Ideal) _ _ _ _ _) fun r s => ?_
      exact pay2_of l0 l3 l4 (lw arg1 harg1 x1 2 2 rfl _ _) (lw arg2 harg2 x2 2 2 rfl _ _) r s
    rcases List.mem_cons.mp hp with rfl | hp
    · refine block_of _ 1 1 rfl inb_S3x5120x8192_S1x5120x8192_1_0_0 (k0_pay1 (F := Ideal) _ _ _) fun r s => ?_
      exact pay1_of (lw arg1 harg1 x1 1 1 rfl _ _) (lw arg2 harg2 x2 1 1 rfl _ _) r s (pay4_of l0 l3 l4)
    rcases List.mem_singleton.mp hp with rfl
    · refine block_of _ 0 0 rfl inb_S3x5120x8192_S1x5120x8192_0_0_0 (k0_pay3 (F := Ideal) _ _ _ _ _) fun r s => ?_
      exact pay3_of l0 l3 l4 (lw arg1 harg1 x1 0 0 rfl _ _) (lw arg2 harg2 x2 0 0 rfl _ _) r s
  · have h0 : (i 0).val < 3 := (i 0).isLt
    have : (i 0).val = 2 ∨ (i 0).val = 1 ∨ (i 0).val = 0 := by omega
    rcases this with h | h | h
    · exact ⟨_, List.mem_cons_self, in_block i 2 h inb_S3x5120x8192_S1x5120x8192_2_0_0⟩
    · exact ⟨_, List.mem_cons_of_mem _ List.mem_cons_self, in_block i 1 h inb_S3x5120x8192_S1x5120x8192_1_0_0⟩
    · exact ⟨_, List.mem_cons_of_mem _ (List.mem_cons_of_mem _ List.mem_cons_self), in_block i 0 h inb_S3x5120x8192_S1x5120x8192_0_0_0⟩
end Cert.ReferenceIdeal.Hand
-- ==== Proof.ReferenceIdeal.Words.lean ====
/-
  The row words of the reference: the word of a row is the number of experts whose ranges end at or before it (`tab_rows`), so it names an expert in exactly
  that expert's rows, and a sum over the rows it names is the sum over the expert's range (`named_eq`).
-/
module
public import proofs.«01_k».proof.Proof.ReferenceIdeal.Pays
public import proofs.«01_k».proof.Proof.Reads
public import proofs.«01_k».proof.Proof.Sums
public import Idealize.ShloMosaic.Lib.StableHlo.ReadAt
@[expose] public section
noncomputable section
namespace Cert.ReferenceIdeal.Hand
open Cert.ReferenceIdeal Cert.ReferenceIdeal.Gen
open Idealize.ShloMosaic Idealize.ShloMosaic.TcCoe Idealize.SL.Sem
open Cert.Visits (bN part_sum bnd)

section Host
variable {F : FTy → Type} [FloatOps F] (X : Valuation τ sig (Elt F)) (g : Fin 3 → BitVec 32)
def y1 : Valuation τ sig (Elt F) := StableHlo.after (hostOps0 (F := F)) X
def y2 : Valuation τ sig (Elt F) := StableHlo.after (hostOps0_1 (F := F)) (y1 X)
def y3 : Valuation τ sig (Elt F) := StableHlo.after (hostOps0_2 (F := F)) (y2 X)
def y4 : Valuation τ sig (Elt F) := StableHlo.after (hostOps0_3 (F := F)) (y3 X)
theorem after_eq : StableHlo.after (List.flatten [hostOps0 (F := F), hostOps0_1, hostOps0_2, hostOps0_3]) X = y4 X := rfl

/-- One for an expert whose range ends at or before row `n`. -/
def past (e : Fin 3) (n : ℕ) : BitVec 32 := (IntOp.cmpi .sle (bnd g e.succ) (BitVec.ofNat 32 n)).setWidth 32

theorem r0 (n : Fin 16384) : StableHlo.after (hostOps0 (F := F)) X (Proc.devRef .tc main_v0) (ix1 n) = BitVec.ofNat 32 n.val := by
  after_reads_at
theorem r1 (h : ∀ e : Fin 3, X (Proc.devRef .tc main_arg4) (ix1 e) = g e) (e : Fin 3) :
    StableHlo.after (hostOps0_1 (F := F)) X (Proc.devRef .tc main_v1) (ix1 e) = bnd g e.succ := by
  after_reads_at
  refine (Cert.Visits.cumsum3 _ _ rfl _ _ e).trans ?_
  fin_cases e
  · exact h 0
  · exact congrArg₂ (fun a b : BitVec 32 => a + b) (h 0) (h 1)
  · exact congrArg₂ (fun a b : BitVec 32 => a + b) (congrArg₂ (fun a b : BitVec 32 => a + b) (h 0) (h 1)) (h 2)
theorem r2 (h : ∀ e : Fin 3, X (Proc.devRef .tc main_v1) (ix1 e) = bnd g e.succ) (n : Fin 16384) (hn : X (Proc.devRef .tc main_v0) (ix1 n) = BitVec.ofNat 32 n.val) :
    StableHlo.after (hostOps0_2 (F := F)) X (Proc.devRef .tc main_v2) (ix1 n) = past g 0 n + past g 1 n + past g 2 n := by
  after_reads_at
  rw [hn, show (Finset.univ : Finset (Fin 3)) = insert 0 (insert 1 {2}) from by decide, Finset.fold_insert (by decide), Finset.fold_insert (by decide),
    Finset.fold_singleton, h 0, h 1, h 2]
  show past g 0 n + (past g 1 n + (past g 2 n + 0#32)) = _
  rw [BitVec.add_zero, BitVec.add_assoc]
theorem r3 (n : Fin 16384) : StableHlo.after (hostOps0_3 (F := F)) X (Proc.devRef .tc main_v3) (ix2 n 0) = X (Proc.devRef .tc main_v2) (ix1 n) := by
  after_reads_at

theorem tab_rows (h : ∀ e : Fin 3, X (Proc.devRef .tc main_arg4) (ix1 e) = g e) (n : Fin 16384) :
    y4 X (Proc.devRef .tc main_v3) (ix2 n 0) = past g 0 n + past g 1 n + past g 2 n := by
  refine (r3 (y3 X) n).trans ?_
  refine r2 (y2 X) g (fun e => ?_) n ?_
  · refine r1 (y1 X) g (fun e => ?_) e
    refine (congrFun (StableHlo.after_unwritten (ops := hostOps0 (F := F)) [main_v0] rfl (r := main_arg4) (by decide) X) _).trans (h e)
  · exact (congrFun (StableHlo.after_unwritten (ops := hostOps0_1 (F := F)) [main_call0_call0_c, main_call0_call0_v0, main_v1] rfl (r := main_v0) (by decide) (y1 X)) _).trans (r0 X n)
end Host

section Named
variable {g : Fin 3 → BitVec 32} {G : Fin 3 → ℕ} (hg : ∀ e, g e = BitVec.ofNat 32 (G e)) (hG : G 0 + G 1 + G 2 ≤ 16384)
include hg hG
theorem past_eq (e : Fin 3) {n : ℕ} (hn : n < 16384) : past g e n = BitVec.ofNat 32 (if bN G e.succ ≤ n then 1 else 0) := by
  have hb := Cert.Visits.bN_le hG e.succ
  have hs : IntOp.cmpi .sle (bnd g e.succ) (BitVec.ofNat 32 n) = BitVec.ofBool (decide (bN G e.succ ≤ n)) := by
    rw [Cert.Visits.bnd_eq hg]
    exact Cert.Visits.cmp_le (by omega) (by omega)
  unfold past
  rw [hs]
  by_cases h : bN G e.succ ≤ n
  · rw [if_pos h, decide_eq_true h]; rfl
  · rw [if_neg h, decide_eq_false h]; rfl

/-- The rows that the words name expert `e` in are the expert's own. -/
theorem word_eq (e : Fin 3) {n : ℕ} (hn : n < 16384) {α : Type} (x z : α) :
    Scalar.select (IntOp.cmpi .eq (past g 0 n + past g 1 n + past g 2 n) (BitVec.ofNat 32 e.val)) x z = if bN G e.castSucc ≤ n ∧ n < bN G e.succ then x else z := by
  rw [past_eq hg hG 0 hn, past_eq hg hG 1 hn, past_eq hg hG 2 hn, Cert.Visits.add_w, Cert.Visits.add_w]
  have h1 : ((if bN G (0 : Fin 3).succ ≤ n then 1 else 0) + (if bN G (1 : Fin 3).succ ≤ n then 1 else 0) + (if bN G (2 : Fin 3).succ ≤ n then 1 else 0) : ℕ) < 2 ^ 31 := by
    split_ifs <;> omega
  have he : e.val < 2 ^ 31 := by have := e.isLt; omega
  rw [Cert.Visits.cmp_eq h1 he, Cert.Visits.sel_bool]
  refine if_congr ?_ rfl rfl
  have one : ∀ k : ℕ, (k ≤ n ∧ (if k ≤ n then 1 else 0) = 1) ∨ (n < k ∧ (if k ≤ n then 1 else 0) = 0) := fun k => by
    by_cases h : k ≤ n
    · exact .inl ⟨h, if_pos h⟩
    · exact .inr ⟨by omega, if_neg h⟩
  have a1 := one (bN G (0 : Fin 3).succ)
  have a2 := one (bN G (1 : Fin 3).succ)
  have a3 := one (bN G (2 : Fin 3).succ)
  generalize (if bN G (0 : Fin 3).succ ≤ n then 1 else 0) = u1 at *
  generalize (if bN G (1 : Fin 3).succ ≤ n then 1 else 0) = u2 at *
  generalize (if bN G (2 : Fin 3).succ ≤ n then 1 else 0) = u3 at *
  have e1 : bN G (0 : Fin 3).succ = G 0 := rfl
  have e2 : bN G (1 : Fin 3).succ = G 0 + G 1 := rfl
  have e3 : bN G (2 : Fin 3).succ = G 0 + G 1 + G 2 := rfl
  rw [e1] at a1
  rw [e2] at a2
  rw [e3] at a3
  have he' : e = 0 ∨ e = 1 ∨ e = 2 := by revert e; decide
  rcases he' with rfl | rfl | rfl
  · show u1 + u2 + u3 = 0 ↔ 0 ≤ n ∧ n < G 0
    omega
  · show u1 + u2 + u3 = 1 ↔ G 0 ≤ n ∧ n < G 0 + G 1
    omega
  · show u1 + u2 + u3 = 2 ↔ G 0 + G 1 ≤ n ∧ n < G 0 + G 1 + G 2
    omega

theorem named_eq (E : S16384x1.Idx → BitVec 32) (hE : ∀ n : Fin 16384, E (ix2 n 0) = past g 0 n + past g 1 n + past g 2 n) (X : S16384x5120.Idx → EReal) (Y : S16384x8192.Idx → EReal)
    (e : Fin 3) (r : Fin 5120) (s : Fin 8192) (f : ℕ → EReal) (hf : ∀ n : Fin 16384, f n.val = X (ix2 n r) * Y (ix2 n s)) :
    named E X Y (BitVec.ofNat 32 e.val) r s = part_sum G f e 16384 := by
  unfold named part_sum Cert.Visits.rows
  rw [← Fin.sum_univ_eq_sum_range (fun n => if bN G e.castSucc ≤ n ∧ n < bN G e.succ then f n else 0)]
  refine Finset.sum_congr rfl fun n _ => ?_
  rw [hE n, word_eq hg hG e n.isLt, hf n]
end Named
end Cert.ReferenceIdeal.Hand
-- ==== Proof.ReferenceIdeal.Val.lean ====
/-
  The reference's result array as one function of its arguments (`run`): at the one grid point each window's block is its whole array.
-/
module
public import proofs.«01_k».proof.Proof.ReferenceIdeal.Words
@[expose] public section
noncomputable section
namespace Cert.ReferenceIdeal.Hand
open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg)

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 1) = 0 := (by decide +kernel : ∀ t : Fin grid0.N, _)
theorem at2 : ∀ t : Fin cfg0.N, win0_2.index t (0 : Fin 1) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 3) = 0 ∧ win0_5.index t (1 : Fin 3) = 0 ∧ win0_5.index t (2 : Fin 3) = 0 := (by decide +kernel : ∀ t : Fin grid0.N, _)

theorem emb0 (t : Fin cfg0.N) (j : S16384x1.Idx) : ((cfg0.win 0).blk t).view.emb j = j := by
  obtain ⟨e0, e1⟩ := at0 t
  funext a; apply Fin.ext
  match a with
  | ⟨0, _⟩ => show win0_0.index t (0 : Fin 2) * 16384 + 1 * (j 0).val = (j 0).val; omega
  | ⟨1, _⟩ => show win0_0.index t (1 : Fin 2) * 1 + 1 * (j 1).val = (j 1).val; omega
theorem emb1 (t : Fin cfg0.N) (j : S3.Idx) : ((cfg0.win 1).blk t).view.emb j = j := by
  have e0 := at1 t
  funext a; apply Fin.ext
  match a with
  | ⟨0, _⟩ => show win0_1.index t (0 : Fin 1) * 3 + 1 * (j 0).val = (j 0).val; omega
theorem emb2 (t : Fin cfg0.N) (j : S3.Idx) : ((cfg0.win 2).blk t).view.emb j = j := by
  have e0 := at2 t
  funext a; apply Fin.ext
  match a with
  | ⟨0, _⟩ => show win0_2.index t (0 : Fin 1) * 3 + 1 * (j 0).val = (j 0).val; omega
theorem emb3 (t : Fin cfg0.N) (j : S16384x5120.Idx) : ((cfg0.win 3).blk t).view.emb j = j := by
  obtain ⟨e0, e1⟩ := at3 t
  funext a; apply Fin.ext
  match a with
  | ⟨0, _⟩ => show win0_3.index t (0 : Fin 2) * 16384 + 1 * (j 0).val = (j 0).val; omega
  | ⟨1, _⟩ => show win0_3.index t (1 : Fin 2) * 5120 + 1 * (j 1).val = (j 1).val; omega
theorem emb4 (t : Fin cfg0.N) (j : S16384x8192.Idx) : ((cfg0.win 4).blk t).view.emb j = j := by
  obtain ⟨e0, e1⟩ := at4 t
  funext a; apply Fin.ext
  match a with
  | ⟨0, _⟩ => show win0_4.index t (0 : Fin 2) * 16384 + 1 * (j 0).val = (j 0).val; omega
  | ⟨1, _⟩ => show win0_4.index t (1 : Fin 2) * 8192 + 1 * (j 1).val = (j 1).val; omega
theorem emb5 (t : Fin cfg0.N) (j : S3x5120x8192.Idx) : ((cfg0.win 5).blk t).view.emb j = j := by
  obtain ⟨e0, e1, e2⟩ := at5 t
  funext a; apply Fin.ext
  match a with
  | ⟨0, _⟩ => show win0_5.index t (0 : Fin 3) * 3 + 1 * (j 0).val = (j 0).val; omega
  | ⟨1, _⟩ => show win0_5.index t (1 : Fin 3) * 5120 + 1 * (j 1).val = (j 1).val; omega
  | ⟨2, _⟩ => show win0_5.index t (2 : Fin 3) * 8192 + 1 * (j 2).val = (j 2).val; omega

theorem iblk0 (c : Dev nD) (t : Fin cfg0.N) : iblk m c 0 t = V m c main_v3 := by
  funext j; show V m c main_v3 (((cfg0.win 0).blk t).view.emb j) = V m c main_v3 j; rw [emb0]
theorem iblk1 (c : Dev nD) (t : Fin cfg0.N) : iblk m c 1 t = V m c main_arg1 := by
  funext j; show V m c main_arg1 (((cfg0.win 1).blk t).view.emb j) = V m c main_arg1 j; rw [emb1]
theorem iblk2 (c : Dev nD) (t : Fin cfg0.N) : iblk m c 2 t = V m c main_arg3 := by
  funext j; show V m c main_arg3 (((cfg0.win 2).blk t).view.emb j) = V m c main_arg3 j; rw [emb2]
theorem iblk3 (c : Dev nD) (t : Fin cfg0.N) : iblk m c 3 t = V m c main_arg0 := by
  funext j; show V m c main_arg0 (((cfg0.win 3).blk t).view.emb j) = V m c main_arg0 j; rw [emb3]
theorem iblk4 (c : Dev nD) (t : Fin cfg0.N) : iblk m c 4 t = V m c main_arg2 := by
  funext j; show V m c main_arg2 (((cfg0.win 4).blk t).view.emb j) = V m c main_arg2 j; rw [emb4]

theorem cut5 (t : Fin cfg0.N) (X : Vec Ideal S3x5120x8192 .f32) : (cfg0.win 5).cut (grid0.coords t) X = ((cfg0.win 5).blk t).view.read (Elt Ideal) X := by
  funext j
  show X j = X (((cfg0.win 5).blk t).view.emb j)
  rw [emb5]
/-- The result array as the region leaves it. -/
def res (c : Dev nD) : Vec Ideal S3x5120x8192 .f32 := outR (V m c main_v3) (V m c main_arg1) (V m c main_arg3) (V m c main_arg0) (V m c main_arg2)
theorem flushed_eq (c : Dev nD) (t : Fin cfg0.N) : (dats m 0 c).flushed 5 t = ((cfg0.win 5).blk t).view.read (Elt Ideal) (res m c) := by
  rw [flushed5_A, out_eq, iblk0, iblk1, iblk2, iblk3, iblk4]
  exact cut5 t _
theorem covered (i : S3x5120x8192.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩
theorem final (c : Dev nD) : (dats m 0 c).arrAt 5 cfg0.N = res m c :=
  (dats m 0 c).arrAt_eq_of_cover 5 (res m c) (fun t _ => flushed_eq m c t) covered
end Cert.ReferenceIdeal.Hand
-- ==== Proof.Equal.lean ====
/-
  The two programs end at one result: on every expert's block the products of the expert's rows, summed, times the expert's scale.
-/
module
public import proofs.«01_k».proof.Defs
public import proofs.«01_k».proof.Proof.Gen.Pre_sizes_fit
public import proofs.«01_k».proof.Proof.Sizes
public import proofs.«01_k».proof.Proof.KernelIdeal.Acc
public import proofs.«01_k».proof.Proof.ReferenceIdeal.Val
@[expose] public section
noncomputable section
namespace Cert.Equal
open Idealize.ShloMosaic Idealize.ShloMosaic.TcCoe Idealize.SL.Sem Idealize.ShloMosaic.Pipeline
open Cert.KernelIdeal.Hand (prods want)

attribute [local instance] Cert.KernelIdeal.Gen.facts Cert.ReferenceIdeal.Gen.facts Cert.Pre_sizes_fit.Gen.facts

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The sizes as numbers. -/
def G (e : Fin 3) : ℕ := (Cert.KernelIdeal.Hand.sz m e).toNat
theorem hg (e : Fin 3) : Cert.KernelIdeal.Hand.sz m e = BitVec.ofNat 32 (G m e) := by unfold G; rw [BitVec.ofNat_toNat, BitVec.setWidth_eq]
theorem hG (h : Cert.Pre_KernelIdeal_sizes_fit m) : G m 0 + G m 1 + G m 2 ≤ 16384 :=
  Cert.Visits.sizes_of _ _ _ _ (m (((0 : Dev Cert.KernelIdeal.nD).tc : Thread Cert.KernelIdeal.nD Cert.KernelIdeal.τ).loc Cert.KernelIdeal.main_arg4)) fun i => congrFun (h 0) i

/-- The common result. -/
def out (c : Dev Cert.KernelIdeal.nD) : Cert.KernelIdeal.S3x5120x8192.Idx → EReal := fun i =>
  want (G m) (Cert.KernelIdeal.Hand.V m c Cert.KernelIdeal.main_arg0) (Cert.KernelIdeal.Hand.V m c Cert.KernelIdeal.main_arg2)
    (Cert.KernelIdeal.Hand.V m c Cert.KernelIdeal.main_v3) (i 0) (i 1) (i 2)

theorem kernel_out (hp : Cert.Pre_KernelIdeal_sizes_fit m) {r : PUnit × MemSt Cert.KernelIdeal.nD Cert.KernelIdeal.τ Cert.KernelIdeal.sig (Elt Ideal)}
    (h : RDat.FramePost (Cert.KernelIdeal.cfg0 (Cert.KernelIdeal.Hand.adm m)) (Cert.KernelIdeal.Hand.rdat m) (Cert.KernelIdeal.Hand.V m) r) (c : Dev Cert.KernelIdeal.nD) :
    r.2.mem (c.tc.loc Cert.KernelIdeal.main_v129) = out m c := by
  obtain ⟨after, hL, hm⟩ := RDat.FramePost.exists_exact h c
  exact (hm 3).trans (Cert.KernelIdeal.Hand.final m (hg m) (hG m hp) c after hL)

theorem ref_out (hp : Cert.Pre_KernelIdeal_sizes_fit m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4)) :
    Cert.ReferenceIdeal.Hand.res m' c = out m c := by
  have k0 : Cert.ReferenceIdeal.Gen.V m' c Cert.ReferenceIdeal.main_arg0 = Cert.KernelIdeal.Hand.V m c Cert.KernelIdeal.main_arg0 :=
    ((Cert.ReferenceIdeal.Gen.V_main_arg0 m' c).trans h0).trans (Cert.KernelIdeal.Hand.arg_0 (fun b => m (c, b))).symm
  have k1 : Cert.ReferenceIdeal.Gen.V m' c Cert.ReferenceIdeal.main_arg1 = m (c.tc.loc Cert.KernelIdeal.main_arg1) :=
    (Cert.ReferenceIdeal.Gen.V_main_arg1 m' c).trans h1
  have k2 : Cert.ReferenceIdeal.Gen.V m' c Cert.ReferenceIdeal.main_arg2 = Cert.KernelIdeal.Hand.V m c Cert.KernelIdeal.main_arg2 :=
    ((Cert.ReferenceIdeal.Gen.V_main_arg2 m' c).trans h2).trans (Cert.KernelIdeal.Hand.arg_2 (fun b => m (c, b))).symm
  have k3 : Cert.ReferenceIdeal.Gen.V m' c Cert.ReferenceIdeal.main_arg3 = m (c.tc.loc Cert.KernelIdeal.main_arg3) :=
    (Cert.ReferenceIdeal.Gen.V_main_arg3 m' c).trans h3
  have ks := Cert.KernelIdeal.Hand.tab_scale (F := Ideal) (fun b => m (c, b))
  have hE := Cert.ReferenceIdeal.Hand.tab_rows (F := Ideal) (fun b => m' (c, b)) (fun e => Cert.KernelIdeal.Hand.sz m e) (fun e => by
    have hc : c = 0 := Subsingleton.elim c 0
    subst hc
    exact congrFun h4 (ix1 e))
  funext i
  refine congrArg₂ (fun a b : EReal => a * b) ?_ ?_
  · rw [k0, k2]
    exact Cert.ReferenceIdeal.Hand.named_eq (hg m) (hG m hp) _ hE _ _ (i 0) (i 1) (i 2) _ fun n => dif_pos n.isLt
  · rw [k1, k3]
    exact (congrFun ks (ix1 (i 0))).symm

theorem algebraic : Cert.algebraic_KernelIdeal_ReferenceIdeal_pre_sizes_fit := fun m g m' g' hp ha =>
  ⟨out m,
   (θ_run _ _ _).mono (fun _ h c => ⟨kernel_out m hp h.1 c, Cert.KernelIdeal.Hand.fin_args h.1 c⟩) (Cert.KernelIdeal.Hand.run_main m g),
   (θ_run _ _ _).mono (fun _ h c => ⟨(h c).1.trans ((Cert.ReferenceIdeal.Hand.final m' c).trans
      (ref_out m m' hp c (ha c).1 (ha c).2.1 (ha c).2.2.1 (ha c).2.2.2.1 (ha c).2.2.2.2)), (h c).2⟩) (Cert.ReferenceIdeal.Value.run_blocks m' g')⟩
end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_fit
public import proofs.«01_k».proof.Proof.Kernel.Run
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sizes_fit.Gen.facts,
  fun m g _ => (θ_run _ _ _).mono (fun _ h => ⟨Cert.Kernel.Hand.fin_args h.1, h.2⟩) (Cert.Kernel.Hand.run_main m g),
  fun m g _ => (θ_run _ _ _).mono (fun _ h => ⟨Cert.KernelIdeal.Hand.fin_args h.1, h.2⟩) (Cert.KernelIdeal.Hand.run_main m g),
  fun m g _ => (θ_run _ _ _).mono (fun _ h => ⟨Cert.KernelIdeal.Hand.fin_args h.1, h.2⟩) (Cert.KernelIdeal.Hand.run_main m g),
  fun m g _ => Cert.ReferenceIdeal.Gen.frame m g,
  fun m g _ => Cert.ReferenceIdeal.Gen.frame m g,
  trivial,
  Cert.Equal.algebraic⟩

end Cert.Proof

end
